-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 8192]⟩ ⟨2, ![4096, 8192]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 8192]⟩ ⟨2, ![4096, 8192]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x8192 : Shape := ⟨2, ![512, 8192]⟩
abbrev S1 : Shape := ⟨1, ![1]⟩
abbrev S4x512x4096 : Shape := ⟨3, ![4, 512, 4096]⟩
abbrev S7 : Shape := ⟨1, ![7]⟩
abbrev S_ : Shape := ⟨0, ![]⟩
abbrev S4x512x512 : Shape := ⟨3, ![4, 512, 512]⟩
abbrev S3x512x512 : Shape := ⟨3, ![3, 512, 512]⟩
abbrev S2x512x512 : Shape := ⟨3, ![2, 512, 512]⟩
abbrev S1x512x512 : Shape := ⟨3, ![1, 512, 512]⟩
abbrev S4 : Shape := ⟨1, ![4]⟩
abbrev S3 : Shape := ⟨1, ![3]⟩
abbrev S512x512 : Shape := ⟨2, ![512, 512]⟩
abbrev S1x512x4096 : Shape := ⟨3, ![1, 512, 4096]⟩
abbrev S512x4096 : Shape := ⟨2, ![512, 4096]⟩
abbrev S512x2048 : Shape := ⟨2, ![512, 2048]⟩

abbrev nBuf : Space → Nat
  | .hbm => 5
  | .vmem => 14
  | .smem => 2
  | _ => 0

abbrev bufTy : (tb : Table) → Fin (tcTables nBuf tb) → BufTy
  | .hbm, ⟨0, _⟩ => ⟨S4096x512, .fp8e5m2⟩
  | .hbm, ⟨1, _⟩ => ⟨S512x8192, .fp8e5m2⟩
  | .hbm, ⟨2, _⟩ => ⟨S1, .f32⟩
  | .hbm, ⟨3, _⟩ => ⟨S1, .f32⟩
  | .hbm, ⟨4, _⟩ => ⟨S512x8192, .f32⟩
  | .local _ .vmem, ⟨0, _⟩ => ⟨S4096x512, .fp8e5m2⟩
  | .local _ .vmem, ⟨1, _⟩ => ⟨S512x8192, .fp8e5m2⟩
  | .local _ .vmem, ⟨2, _⟩ => ⟨S512x8192, .f32⟩
  | .local _ .vmem, ⟨3, _⟩ => ⟨S4x512x4096, .fp8e5m2⟩
  | .local _ .vmem, ⟨4, _⟩ => ⟨S4x512x4096, .fp8e5m2⟩
  | .local _ .vmem, ⟨5, _⟩ => ⟨S4x512x512, .fp8e5m2⟩
  | .local _ .vmem, ⟨6, _⟩ => ⟨S3x512x512, .fp8e5m2⟩
  | .local _ .vmem, ⟨7, _⟩ => ⟨S4x512x512, .fp8e5m2⟩
  | .local _ .vmem, ⟨8, _⟩ => ⟨S3x512x512, .fp8e5m2⟩
  | .local _ .vmem, ⟨9, _⟩ => ⟨S2x512x512, .fp8e5m2⟩
  | .local _ .vmem, ⟨10, _⟩ => ⟨S1x512x512, .fp8e5m2⟩
  | .local _ .vmem, ⟨11, _⟩ => ⟨S3x512x512, .fp8e5m2⟩
  | .local _ .vmem, ⟨12, _⟩ => ⟨S2x512x512, .fp8e5m2⟩
  | .local _ .vmem, ⟨13, _⟩ => ⟨S1x512x512, .fp8e5m2⟩
  | .local _ .smem, ⟨0, _⟩ => ⟨S1, .f32⟩
  | .local _ .smem, ⟨1, _⟩ => ⟨S1, .f32⟩
  | _, _ => ⟨S4096x512, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 3 → Bool
  | ⟨0, _⟩ => true
  | ⟨1, _⟩ => true
  | ⟨2, _⟩ => false
  | _ => false

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  (ofTc nBuf bufTy 3 47 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch8 : Ref sig .tc := ⟨.vmem, 5, rfl⟩
abbrev cc0_scratch9 : Ref sig .tc := ⟨.vmem, 6, rfl⟩
abbrev cc0_scratch10 : Ref sig .tc := ⟨.vmem, 7, rfl⟩
abbrev cc0_scratch11 : Ref sig .tc := ⟨.vmem, 8, rfl⟩
abbrev cc0_scratch12 : Ref sig .tc := ⟨.vmem, 9, rfl⟩
abbrev cc0_scratch13 : Ref sig .tc := ⟨.vmem, 10, rfl⟩
abbrev cc0_scratch14 : Ref sig .tc := ⟨.vmem, 11, rfl⟩
abbrev cc0_scratch15 : Ref sig .tc := ⟨.vmem, 12, rfl⟩
abbrev cc0_scratch16 : Ref sig .tc := ⟨.vmem, 13, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 2

abbrev nD : Nat := 8
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) (c1_i32_20 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v33 : BitVec 32 := Scalar.addi v2 c1_i32_20
  let c8_i32_21 : BitVec 32 := 8#32
  let c0_i32_22 : BitVec 32 := 0#32
  let v34 : BitVec 1 := Scalar.cmpi .eq c8_i32_21 c0_i32_22
  let c1_i32_23 : BitVec 32 := 1#32
  let v35 : BitVec 32 := Scalar.select v34 c1_i32_23 c8_i32_21
  let v36 : BitVec 32 := Scalar.remsi v33 v35
  let c0_i32_25 : BitVec 32 := 0#32
  let v38 : BitVec 1 := Scalar.cmpi .slt v36 c0_i32_25
  let c0_i32_26 : BitVec 32 := 0#32
  let v39 : BitVec 1 := Scalar.cmpi .slt v35 c0_i32_26
  let v40 : BitVec 1 := Scalar.xori v38 v39
  let c0_i32_24 : BitVec 32 := 0#32
  let v37 : BitVec 1 := Scalar.cmpi .ne v36 c0_i32_24
  let v41 : BitVec 1 := Scalar.andi v40 v37
  let v42 : BitVec 32 := Scalar.addi v36 v35
  let v43 : BitVec 32 := Scalar.select v41 v42 v36
  let c512_i32 : BitVec 32 := 512#32
  let v44 : BitVec 32 := Scalar.muli v43 c512_i32
  let v45 : Index := Scalar.indexCast v44
  let c0_27 : Index := 0#32
  ![v45.toNat, 0]
def k0_off1_at (r : Fin 7) : BitVec 32 :=
  if r.val < 3 then
    if r.val < 1 then
      1#32
    else
      if r.val < 2 then
        2#32
      else
        3#32
  else
    if r.val < 5 then
      if r.val < 4 then
        4#32
      else
        4294967295#32
    else
      if r.val < 6 then
        4294967294#32
      else
        4294967293#32
def k0_dev3 (d0 : Dev nD) : Nat :=
  let c0_i32_99 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_98 : BitVec 32 := 1#32
  let v159 : BitVec 32 := Scalar.muli v24 c1_i32_98
  let v160 : BitVec 32 := Scalar.addi c0_i32_99 v159
  v160.toNat
def k0_dev4 (d0 : Dev nD) : Nat :=
  let c0_i32_107 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_106 : BitVec 32 := 1#32
  let v168 : BitVec 32 := Scalar.muli v24 c1_i32_106
  let v169 : BitVec 32 := Scalar.addi c0_i32_107 v168
  v169.toNat
def k0_dev5 (d0 : Dev nD) : Nat :=
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_117 : BitVec 32 := 1#32
  let v176 : BitVec 32 := Scalar.muli v13 c1_i32_117
  let v177 : BitVec 32 := Scalar.addi c0_i32_118 v176
  v177.toNat
def k0_dev6 (d0 : Dev nD) : Nat :=
  let c0_i32_125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_124 : BitVec 32 := 1#32
  let v185 : BitVec 32 := Scalar.muli v13 c1_i32_124
  let v186 : BitVec 32 := Scalar.addi c0_i32_125 v185
  v186.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_132 : BitVec 32 := 512#32
  let v193 : BitVec 32 := Scalar.muli v2 c512_i32_132
  let v194 : Index := Scalar.indexCast v193
  let c0_133 : Index := 0#32
  ![v194.toNat, 0]
def k0_dev7 (d0 : Dev nD) : Nat :=
  let c0_i32_165 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_164 : BitVec 32 := 1#32
  let v221 : BitVec 32 := Scalar.muli v24 c1_i32_164
  let v222 : BitVec 32 := Scalar.addi c0_i32_165 v221
  v222.toNat
def k0_dev8 (d0 : Dev nD) : Nat :=
  let c0_i32_183 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_182 : BitVec 32 := 1#32
  let v237 : BitVec 32 := Scalar.muli v24 c1_i32_182
  let v238 : BitVec 32 := Scalar.addi c0_i32_183 v237
  v238.toNat
def k0_dev9 (d0 : Dev nD) : Nat :=
  let c0_i32_205 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_204 : BitVec 32 := 1#32
  let v253 : BitVec 32 := Scalar.muli v13 c1_i32_204
  let v254 : BitVec 32 := Scalar.addi c0_i32_205 v253
  v254.toNat
def k0_dev10 (d0 : Dev nD) : Nat :=
  let c0_i32_223 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_222 : BitVec 32 := 1#32
  let v269 : BitVec 32 := Scalar.muli v13 c1_i32_222
  let v270 : BitVec 32 := Scalar.addi c0_i32_223 v269
  v270.toNat
def k0_dev11 (d0 : Dev nD) : Nat :=
  let c0_i32_277 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_276 : BitVec 32 := 1#32
  let v317 : BitVec 32 := Scalar.muli v24 c1_i32_276
  let v318 : BitVec 32 := Scalar.addi c0_i32_277 v317
  v318.toNat
def k0_dev12 (d0 : Dev nD) : Nat :=
  let c0_i32_295 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_294 : BitVec 32 := 1#32
  let v333 : BitVec 32 := Scalar.muli v24 c1_i32_294
  let v334 : BitVec 32 := Scalar.addi c0_i32_295 v333
  v334.toNat
def k0_dev13 (d0 : Dev nD) : Nat :=
  let c0_i32_317 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_316 : BitVec 32 := 1#32
  let v349 : BitVec 32 := Scalar.muli v13 c1_i32_316
  let v350 : BitVec 32 := Scalar.addi c0_i32_317 v349
  v350.toNat
def k0_dev14 (d0 : Dev nD) : Nat :=
  let c0_i32_335 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_334 : BitVec 32 := 1#32
  let v365 : BitVec 32 := Scalar.muli v13 c1_i32_334
  let v366 : BitVec 32 := Scalar.addi c0_i32_335 v365
  v366.toNat
def k0_dev15 (d0 : Dev nD) : Nat :=
  let c0_i32_389 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_388 : BitVec 32 := 1#32
  let v413 : BitVec 32 := Scalar.muli v24 c1_i32_388
  let v414 : BitVec 32 := Scalar.addi c0_i32_389 v413
  v414.toNat
def k0_dev16 (d0 : Dev nD) : Nat :=
  let c0_i32_407 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_406 : BitVec 32 := 1#32
  let v429 : BitVec 32 := Scalar.muli v24 c1_i32_406
  let v430 : BitVec 32 := Scalar.addi c0_i32_407 v429
  v430.toNat
def k0_dev17 (d0 : Dev nD) : Nat :=
  let c0_i32_429 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_428 : BitVec 32 := 1#32
  let v445 : BitVec 32 := Scalar.muli v13 c1_i32_428
  let v446 : BitVec 32 := Scalar.addi c0_i32_429 v445
  v446.toNat
def k0_dev18 (d0 : Dev nD) : Nat :=
  let c0_i32_487 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_486 : BitVec 32 := 1#32
  let v499 : BitVec 32 := Scalar.muli v13 c1_i32_486
  let v500 : BitVec 32 := Scalar.addi c0_i32_487 v499
  v500.toNat
def k0_dev19 (d0 : Dev nD) : Nat :=
  let c0_i32_499 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_498 : BitVec 32 := 1#32
  let v507 : BitVec 32 := Scalar.muli v24 c1_i32_498
  let v508 : BitVec 32 := Scalar.addi c0_i32_499 v507
  v508.toNat
def k0_dev20 (d0 : Dev nD) : Nat :=
  let c0_i32_517 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_516 : BitVec 32 := 1#32
  let v517 : BitVec 32 := Scalar.muli v24 c1_i32_516
  let v518 : BitVec 32 := Scalar.addi c0_i32_517 v517
  v518.toNat
def k0_dev21 (d0 : Dev nD) : Nat :=
  let c0_i32_549 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_548 : BitVec 32 := 1#32
  let v541 : BitVec 32 := Scalar.muli v13 c1_i32_548
  let v542 : BitVec 32 := Scalar.addi c0_i32_549 v541
  v542.toNat
def k0_dev22 (d0 : Dev nD) : Nat :=
  let c0_i32_597 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_596 : BitVec 32 := 1#32
  let v589 : BitVec 32 := Scalar.muli v13 c1_i32_596
  let v590 : BitVec 32 := Scalar.addi c0_i32_597 v589
  v590.toNat
def k0_dev23 (d0 : Dev nD) : Nat :=
  let c0_i32_609 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_608 : BitVec 32 := 1#32
  let v597 : BitVec 32 := Scalar.muli v24 c1_i32_608
  let v598 : BitVec 32 := Scalar.addi c0_i32_609 v597
  v598.toNat
def k0_dev24 (d0 : Dev nD) : Nat :=
  let c0_i32_626 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_625 : BitVec 32 := 1#32
  let v607 : BitVec 32 := Scalar.muli v24 c1_i32_625
  let v608 : BitVec 32 := Scalar.addi c0_i32_626 v607
  v608.toNat
def k0_dev25 (d0 : Dev nD) : Nat :=
  let c0_i32_648 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_647 : BitVec 32 := 1#32
  let v625 : BitVec 32 := Scalar.muli v13 c1_i32_647
  let v626 : BitVec 32 := Scalar.addi c0_i32_648 v625
  v626.toNat
def k0_dev26 (d0 : Dev nD) : Nat :=
  let c0_i32_696 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_695 : BitVec 32 := 1#32
  let v673 : BitVec 32 := Scalar.muli v13 c1_i32_695
  let v674 : BitVec 32 := Scalar.addi c0_i32_696 v673
  v674.toNat
def k0_dev27 (d0 : Dev nD) : Nat :=
  let c0_i32_708 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_707 : BitVec 32 := 1#32
  let v681 : BitVec 32 := Scalar.muli v24 c1_i32_707
  let v682 : BitVec 32 := Scalar.addi c0_i32_708 v681
  v682.toNat
def k0_dev28 (d0 : Dev nD) : Nat :=
  let c0_i32_725 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_724 : BitVec 32 := 1#32
  let v691 : BitVec 32 := Scalar.muli v24 c1_i32_724
  let v692 : BitVec 32 := Scalar.addi c0_i32_725 v691
  v692.toNat
def k0_dev29 (d0 : Dev nD) : Nat :=
  let c0_i32_747 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_746 : BitVec 32 := 1#32
  let v709 : BitVec 32 := Scalar.muli v13 c1_i32_746
  let v710 : BitVec 32 := Scalar.addi c0_i32_747 v709
  v710.toNat
abbrev stage0_0 : Fin 1 → Memref sig .tc .vmem S4096x512 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e5m2⟩
  | .hbm, ⟨1, _⟩ => ⟨S4096x8192, .fp8e5m2⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e5m2⟩
  | .local _ .vmem, ⟨1, _⟩ => ⟨S4096x8192, .fp8e5m2⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e5m2⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Ring.lean ====
/-
  The ring the kernel talks around, as data: its two directions, the twenty-one transfers of each device, the
  semaphores they complete on, the order in which a device's protocol steps come, and the levels that order the waits.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Release
public import Idealize.ShloMosaic.Lib.MemrefSat

@[expose] public section

set_option maxRecDepth 16384

noncomputable section

namespace Cert.RingMatmul

open Cert.KernelIdeal Cert.KernelIdeal.Gen
open Idealize.ShloMosaic
open Idealize.ShloMosaic.TcCoe

/-! ## Directions -/

set_option backward.proofsInPublic true in
/-- The device `n` steps away from `c` in direction `d` (`true` up the ring, `false` down). -/
def rot (d : Bool) (n : ℕ) (c : Dev nD) : Dev nD :=
  match d with
  | true => ⟨(c.val + n) % 8, Nat.mod_lt _ (by decide)⟩
  | false => ⟨(c.val + 7 * n) % 8, Nat.mod_lt _ (by decide)⟩

/-- The neighbour a device sends to in direction `d`, -/
def nxt (d : Bool) (c : Dev nD) : Dev nD := rot d 1 c
/-- and the one it receives from. -/
def frm (d : Bool) (c : Dev nD) : Dev nD := rot (!d) 1 c

theorem frm_nxt (d : Bool) (c : Dev nD) : frm d (nxt d c) = c := by revert d c; decide
theorem nxt_frm (d : Bool) (c : Dev nD) : nxt d (frm d c) = c := by revert d c; decide

/-- One step along the direction as a permutation of the ring. -/
def ring (d : Bool) : Dev nD ≃ Dev nD := ⟨nxt d, frm d, frm_nxt d, nxt_frm d⟩

theorem rot_zero (d : Bool) (c : Dev nD) : rot d 0 c = c := by revert d c; decide
theorem rot_nxt (d : Bool) (n : ℕ) (c : Dev nD) : rot d n (nxt d c) = rot d (n + 1) c := by
  obtain ⟨c, hc⟩ := c
  have hc' : c < 8 := hc
  cases d <;> simp only [nxt, rot, Fin.mk.injEq] <;> omega
theorem rot_back_nxt (d : Bool) (n : ℕ) (c : Dev nD) : rot (!d) (n + 1) (nxt d c) = rot (!d) n c := by
  obtain ⟨c, hc⟩ := c
  have hc' : c < 8 := hc
  cases d <;> simp only [nxt, rot, Fin.mk.injEq, Bool.not_true, Bool.not_false] <;> omega

/-! ## Transfers -/

/-- The transfers a device makes: seven of a weight half in each direction, four of an `x` stack up the ring and three
    down it. -/
abbrev Tr : Type := (Bool × Fin 7) ⊕ (Fin 4 ⊕ Fin 3)

abbrev trW (d : Bool) (h : Fin 7) : Tr := Sum.inl (d, h)
abbrev trXc (h : Fin 4) : Tr := Sum.inr (Sum.inl h)
abbrev trXa (h : Fin 3) : Tr := Sum.inr (Sum.inr h)

/-- The direction of a transfer, -/
def dir : Tr → Bool
  | .inl (d, _) => d
  | .inr (.inl _) => true
  | .inr (.inr _) => false
/-- and its hop, counted from one. -/
def hop : Tr → ℕ
  | .inl (_, h) => h.val + 1
  | .inr (.inl h) => h.val + 1
  | .inr (.inr h) => h.val + 1

set_option backward.proofsInPublic true in
/-- The semaphore a transfer's sender waits on, -/
def sndSem : Tr → DmaSem sig
  | .inl (true, h) => ⟨5 + h.val, by have := h.isLt; show _ < 47; omega⟩
  | .inl (false, h) => ⟨19 + h.val, by have := h.isLt; show _ < 47; omega⟩
  | .inr (.inl h) => ⟨33 + h.val, by have := h.isLt; show _ < 47; omega⟩
  | .inr (.inr h) => ⟨41 + h.val, by have := h.isLt; show _ < 47; omega⟩
set_option backward.proofsInPublic true in
/-- and the one its receiver waits on. -/
def rcvSem : Tr → DmaSem sig
  | .inl (true, h) => ⟨12 + h.val, by have := h.isLt; show _ < 47; omega⟩
  | .inl (false, h) => ⟨26 + h.val, by have := h.isLt; show _ < 47; omega⟩
  | .inr (.inl h) => ⟨37 + h.val, by have := h.isLt; show _ < 47; omega⟩
  | .inr (.inr h) => ⟨44 + h.val, by have := h.isLt; show _ < 47; omega⟩

/-! ## Cells -/

/-- A device's cells: the barrier, a credit cell for each direction, a send and a receive cell for each transfer. -/
inductive CK where
  | bar
  | cr (d : Bool)
  | snd (t : Tr)
  | rcv (t : Tr)
deriving DecidableEq

/-- The runtime's barrier semaphore. -/
abbrev barS : Sem sig := (SemArray.scalar (sig.barrier 0 rfl) : Sems sig S_).sem
/-- The credit semaphore of a direction. -/
def crS : Bool → Sem sig
  | true => (cc0_scratch6 : Sems sig S_).sem
  | false => (cc0_scratch7 : Sems sig S_).sem

/-- The semaphore of a cell. -/
def csem : CK → SemLoc sig
  | .bar => .reg barS
  | .cr d => .reg (crS d)
  | .snd t => .dma (sndSem t)
  | .rcv t => .dma (rcvSem t)

/-- Every cell of a device. -/
def trs : List Tr :=
  ((List.finRange 7).map (trW true)) ++ ((List.finRange 7).map (trW false)) ++ ((List.finRange 4).map trXc) ++ ((List.finRange 3).map trXa)
def cks : List CK := CK.bar :: CK.cr true :: CK.cr false :: (trs.map CK.snd ++ trs.map CK.rcv)

theorem mem_trs (t : Tr) : t ∈ trs := by
  rcases t with ⟨d, h⟩ | h | h
  · cases d <;> simp [trs]
  · simp [trs]
  · simp [trs]
theorem mem_cks (k : CK) : k ∈ cks := by
  cases k with
  | bar => simp [cks]
  | cr d => cases d <;> simp [cks]
  | snd t => simp [cks, mem_trs]
  | rcv t => simp [cks, mem_trs]

instance : Fintype CK := ⟨cks.toFinset, fun k => List.mem_toFinset.mpr (mem_cks k)⟩

/-- A DMA semaphore's number back to the transfer and the end it serves, -/
def decD (q : ℕ) : Option CK :=
  if q < 5 then none
  else if h : q - 5 < 7 then some (.snd (trW true ⟨q - 5, h⟩))
  else if h : q - 12 < 7 then some (.rcv (trW true ⟨q - 12, h⟩))
  else if h : q - 19 < 7 then some (.snd (trW false ⟨q - 19, h⟩))
  else if h : q - 26 < 7 then some (.rcv (trW false ⟨q - 26, h⟩))
  else if h : q - 33 < 4 then some (.snd (trXc ⟨q - 33, h⟩))
  else if h : q - 37 < 4 then some (.rcv (trXc ⟨q - 37, h⟩))
  else if h : q - 41 < 3 then some (.snd (trXa ⟨q - 41, h⟩))
  else if h : q - 44 < 3 then some (.rcv (trXa ⟨q - 44, h⟩))
  else none
/-- a regular semaphore's likewise, -/
def decR (q : Sem sig) : Option CK :=
  if q = barS then some .bar else if q = crS true then some (.cr true) else if q = crS false then some (.cr false) else none
/-- and any semaphore's. -/
def dec : SemLoc sig → Option CK
  | .dma q => decD q.val
  | .reg q => decR q

theorem decD_snd (t : Tr) : decD (sndSem t).val = some (.snd t) := by
  rcases t with ⟨d, h⟩ | h | h
  · revert d h; decide
  · revert h; decide
  · revert h; decide
theorem decD_rcv (t : Tr) : decD (rcvSem t).val = some (.rcv t) := by
  rcases t with ⟨d, h⟩ | h | h
  · revert d h; decide
  · revert h; decide
  · revert h; decide
theorem decR_bar : decR barS = some .bar := by decide
theorem decR_cr (d : Bool) : decR (crS d) = some (.cr d) := by revert d; decide
theorem dec_csem (k : CK) : dec (csem k) = some k := by
  cases k with
  | bar => exact decR_bar
  | cr d => exact decR_cr d
  | snd t => exact decD_snd t
  | rcv t => exact decD_rcv t

theorem csem_injective : Function.Injective csem := fun a b h => by
  have := congrArg dec h
  rw [dec_csem, dec_csem] at this
  exact Option.some.inj this

/-- Device `c`'s cell of kind `k`. -/
abbrev kcell (ck : Dev nD × CK) : GSem nD τ sig := ((ck.1 : Thread nD τ), csem ck.2)

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-! ## The protocol steps of a device, in order -/

/-- A protocol step: signal the neighbour `frm d` on the barrier, wait on the barrier, start a transfer, wait for one to
    arrive, wait for one to have left, grant the `j`-th credit to `frm d`, wait for the `j`-th credit of `nxt d`. -/
inductive Ev where
  | sigB (d : Bool)
  | wbar
  | send (t : Tr)
  | recv (t : Tr)
  | wsnd (t : Tr)
  | sig (d : Bool) (j : Fin 3)
  | wcr (d : Bool) (j : Fin 3)
deriving DecidableEq

/-- The steps that follow the last hop: the waits for the transfers to have left that nothing waited for before. -/
abbrev evEnd : List Ev :=
  [.wsnd (trW true 0), .wsnd (trW true 4), .wsnd (trW true 5), .wsnd (trW true 6), .wsnd (trXc 0), .wsnd (trXc 1),
   .wsnd (trXc 2), .wsnd (trXc 3), .wsnd (trW false 0), .wsnd (trW false 4), .wsnd (trW false 5), .wsnd (trW false 6),
   .wsnd (trXa 0), .wsnd (trXa 1), .wsnd (trXa 2)]
abbrev ev7 : List Ev := .recv (trW true 6) :: .recv (trW false 6) :: evEnd
abbrev ev6 : List Ev :=
  .recv (trW true 5) :: .wcr true 2 :: .send (trW true 6) :: .recv (trW false 5) :: .wcr false 2 :: .send (trW false 6) :: ev7
/-- The slot's release at the end of steps 5, 4 and 3. -/
abbrev ev5r : List Ev := .wsnd (trW true 3) :: .sig true 2 :: .wsnd (trW false 3) :: .sig false 2 :: ev6
abbrev ev5 : List Ev :=
  .recv (trW true 4) :: .wcr true 1 :: .send (trW true 5) :: .recv (trW false 4) :: .wcr false 1 :: .send (trW false 5) :: ev5r
abbrev ev4r : List Ev := .wsnd (trW true 2) :: .sig true 1 :: .wsnd (trW false 2) :: .sig false 1 :: ev5
abbrev ev4 : List Ev :=
  .recv (trW true 3) :: .wcr true 0 :: .send (trW true 4) :: .recv (trXc 3) :: .recv (trW false 3) :: .wcr false 0
    :: .send (trW false 4) :: ev4r
abbrev ev3r : List Ev := .wsnd (trW true 1) :: .sig true 0 :: .wsnd (trW false 1) :: .sig false 0 :: ev4
abbrev ev3 : List Ev :=
  .recv (trW true 2) :: .send (trW true 3) :: .recv (trXc 2) :: .send (trXc 3) :: .recv (trW false 2) :: .send (trW false 3)
    :: .recv (trXa 2) :: ev3r
abbrev ev2 : List Ev :=
  .recv (trW true 1) :: .send (trW true 2) :: .recv (trXc 1) :: .send (trXc 2) :: .recv (trW false 1) :: .send (trW false 2)
    :: .recv (trXa 1) :: .send (trXa 2) :: ev3
abbrev ev1 : List Ev :=
  .recv (trW true 0) :: .send (trW true 1) :: .recv (trXc 0) :: .send (trXc 1) :: .recv (trW false 0) :: .send (trW false 1)
    :: .recv (trXa 0) :: .send (trXa 1) :: ev2
abbrev ev0 : List Ev := .send (trW true 0) :: .send (trXc 0) :: .send (trW false 0) :: .send (trXa 0) :: ev1
abbrev evs : List Ev := .sigB true :: .sigB false :: .wbar :: ev0

/-! ## What a step pays, and the levels -/

/-- What one step pays towards: the cell's kind, the receiver's direction and index; nothing for a wait. -/
def pay : Ev → Option (CK × Bool × ℕ)
  | .sigB d => some (.bar, !d, 0)
  | .send t => some (.rcv t, dir t, 0)
  | .sig d j => some (.cr d, !d, j.val)
  | _ => none

/-- The level of a cell's index: a wait is allowed below everything its waiter still has to pay. -/
def lvK : CK → ℕ → ℕ
  | .bar, _ => 1
  | .cr _, i => 10 * (i + 3) + 5
  | .snd _, _ => 0
  | .rcv t, _ => 10 * hop t

/-- Everything the steps pay lies above `v`. -/
def above (v : ℕ) (l : List Ev) : Bool :=
  l.all fun e => match pay e with
    | some (k, _, i) => decide (v < lvK k i)
    | none => true

/-- The cell a step closes when it is over: a wait is the last of its cell. -/
def closes : Ev → Option CK
  | .wbar => some .bar
  | .recv t => some (.rcv t)
  | .wsnd t => some (.snd t)
  | .wcr d j => if j = 2 then some (.cr d) else none
  | _ => none

end Cert.RingMatmul

end
-- ==== Proof.Transfers.lean ====
/-
  The memrefs the transfers go through and what they carry, by the device that holds it: a half of a weight block that has
  come some hops round the ring, a stack of `x` tiles of one origin with the tile for the holder first.
-/
module

public import proofs.«01_k».proof.Proof.Ring

@[expose] public section

set_option maxRecDepth 16384

noncomputable section

namespace Cert.RingMatmul

open Cert.KernelIdeal Cert.KernelIdeal.Gen
open Idealize.ShloMosaic
open Idealize.ShloMosaic.TcCoe
open Idealize.SL Idealize.SL.RA

variable {F : FTy → Type} [FloatOps F]

/-! ## Memrefs -/

abbrev a0 : Memref sig .tc .vmem S4096x512 .fp8e5m2 := Memref.whole cc0_stg0_0
abbrev a1 : Memref sig .tc .vmem S512x8192 .fp8e5m2 := Memref.whole cc0_stg1_0
abbrev a2 : Memref sig .tc .smem S1 .f32 := Memref.whole cc0_stg2_0
abbrev a3 : Memref sig .tc .smem S1 .f32 := Memref.whole cc0_stg3_0
abbrev a4 : Memref sig .tc .vmem S512x8192 .f32 := Memref.whole cc0_stg4_0
/-- The four weight slots of a direction; -/
def wbuf : Bool → Memref sig .tc .vmem S4x512x4096 .fp8e5m2
  | true => Memref.whole cc0_scratch0
  | false => Memref.whole cc0_scratch1
abbrev a13 : Memref sig .tc .vmem S4x512x512 .fp8e5m2 := Memref.whole cc0_scratch8
abbrev a14 : Memref sig .tc .vmem S3x512x512 .fp8e5m2 := Memref.whole cc0_scratch9

theorem inb_slot (k : Fin 4) : ∀ a, (![k.val, 0, 0] : Fin 3 → ℕ) a + S1x512x4096.size a ≤ S4x512x4096.size a := by
  revert k; decide
/-- one slot, as the kernel slices it, -/
def wslot1 (d : Bool) (k : Fin 4) : Memref sig .tc .vmem S1x512x4096 .fp8e5m2 :=
  (wbuf d).slice (Rect.unit (s := S4x512x4096) ![k.val, 0, 0] S1x512x4096.size (inb_slot k)) (fun _ => rfl)
/-- and as its transfers do. -/
def wslot (d : Bool) (k : Fin 4) : Memref sig .tc .vmem S512x4096 .fp8e5m2 :=
  (wslot1 d k).squeeze S512x4096 squeezes_S1x512x4096_S512x4096

/-- The first column of a direction's half. -/
abbrev off (d : Bool) : ℕ := match d with | true => 0 | false => 4096
theorem inb_half (d : Bool) : ∀ a, (![0, off d] : Fin 2 → ℕ) a + S512x4096.size a ≤ S512x8192.size a := by
  revert d; decide
abbrev rHalf (d : Bool) : Rect S512x8192 := Rect.unit (s := S512x8192) ![0, off d] S512x4096.size (inb_half d)
/-- A direction's half of the device's own weights. -/
def whalf (d : Bool) : Memref sig .tc .vmem S512x4096 .fp8e5m2 := a1.slice (rHalf d) (fun _ => rfl)

abbrev b1c : Memref sig .tc .vmem S4x512x512 .fp8e5m2 := Memref.whole cc0_scratch10
abbrev b2c : Memref sig .tc .vmem S3x512x512 .fp8e5m2 := Memref.whole cc0_scratch11
abbrev b3c : Memref sig .tc .vmem S2x512x512 .fp8e5m2 := Memref.whole cc0_scratch12
abbrev b4c : Memref sig .tc .vmem S1x512x512 .fp8e5m2 := Memref.whole cc0_scratch13
abbrev b1a : Memref sig .tc .vmem S3x512x512 .fp8e5m2 := Memref.whole cc0_scratch14
abbrev b2a : Memref sig .tc .vmem S2x512x512 .fp8e5m2 := Memref.whole cc0_scratch15
abbrev b3a : Memref sig .tc .vmem S1x512x512 .fp8e5m2 := Memref.whole cc0_scratch16

abbrev all4 (m : Memref sig .tc .vmem S4x512x512 .fp8e5m2) : Memref sig .tc .vmem S4x512x512 .fp8e5m2 :=
  m.slice (Rect.unit (s := S4x512x512) ![0, 0, 0] S4x512x512.size inb_S4x512x512_S4x512x512_0_0_0) (fun _ => rfl)
abbrev all3 (m : Memref sig .tc .vmem S3x512x512 .fp8e5m2) : Memref sig .tc .vmem S3x512x512 .fp8e5m2 :=
  m.slice (Rect.unit (s := S3x512x512) ![0, 0, 0] S3x512x512.size inb_S3x512x512_S3x512x512_0_0_0) (fun _ => rfl)
abbrev all2 (m : Memref sig .tc .vmem S2x512x512 .fp8e5m2) : Memref sig .tc .vmem S2x512x512 .fp8e5m2 :=
  m.slice (Rect.unit (s := S2x512x512) ![0, 0, 0] S2x512x512.size inb_S2x512x512_S2x512x512_0_0_0) (fun _ => rfl)
abbrev all1 (m : Memref sig .tc .vmem S1x512x512 .fp8e5m2) : Memref sig .tc .vmem S1x512x512 .fp8e5m2 :=
  m.slice (Rect.unit (s := S1x512x512) ![0, 0, 0] S1x512x512.size inb_S1x512x512_S1x512x512_0_0_0) (fun _ => rfl)
abbrev tl4 (m : Memref sig .tc .vmem S4x512x512 .fp8e5m2) : Memref sig .tc .vmem S3x512x512 .fp8e5m2 :=
  m.slice (Rect.unit (s := S4x512x512) ![1, 0, 0] S3x512x512.size inb_S4x512x512_S3x512x512_1_0_0) (fun _ => rfl)
abbrev tl3 (m : Memref sig .tc .vmem S3x512x512 .fp8e5m2) : Memref sig .tc .vmem S2x512x512 .fp8e5m2 :=
  m.slice (Rect.unit (s := S3x512x512) ![1, 0, 0] S2x512x512.size inb_S3x512x512_S2x512x512_1_0_0) (fun _ => rfl)
abbrev tl2 (m : Memref sig .tc .vmem S2x512x512 .fp8e5m2) : Memref sig .tc .vmem S1x512x512 .fp8e5m2 :=
  m.slice (Rect.unit (s := S2x512x512) ![1, 0, 0] S1x512x512.size inb_S2x512x512_S1x512x512_1_0_0) (fun _ => rfl)

/-! ## The transfers' ends -/

/-- The shape a transfer moves, -/
def tsh : Tr → Shape
  | .inl _ => S512x4096
  | .inr (.inl 0) => S4x512x512
  | .inr (.inl 1) => S3x512x512
  | .inr (.inl 2) => S2x512x512
  | .inr (.inl 3) => S1x512x512
  | .inr (.inr 0) => S3x512x512
  | .inr (.inr 1) => S2x512x512
  | .inr (.inr 2) => S1x512x512

/-- the memref it reads on the sender, -/
def srcM : (t : Tr) → Memref sig .tc .vmem (tsh t) .fp8e5m2
  | .inl (d, 0) => whalf d
  | .inl (d, 1) => wslot d 0
  | .inl (d, 2) => wslot d 1
  | .inl (d, 3) => wslot d 2
  | .inl (d, 4) => wslot d 3
  | .inl (d, 5) => wslot d 0
  | .inl (d, 6) => wslot d 1
  | .inr (.inl 0) => all4 a13
  | .inr (.inl 1) => tl4 b1c
  | .inr (.inl 2) => tl3 b2c
  | .inr (.inl 3) => tl2 b3c
  | .inr (.inr 0) => all3 a14
  | .inr (.inr 1) => tl3 b1a
  | .inr (.inr 2) => tl2 b2a

/-- and the one it fills on the receiver. -/
def dstM : (t : Tr) → Memref sig .tc .vmem (tsh t) .fp8e5m2
  | .inl (d, 0) => wslot d 0
  | .inl (d, 1) => wslot d 1
  | .inl (d, 2) => wslot d 2
  | .inl (d, 3) => wslot d 3
  | .inl (d, 4) => wslot d 0
  | .inl (d, 5) => wslot d 1
  | .inl (d, 6) => wslot d 2
  | .inr (.inl 0) => all4 b1c
  | .inr (.inl 1) => all3 b2c
  | .inr (.inl 2) => all2 b3c
  | .inr (.inl 3) => all1 b4c
  | .inr (.inr 0) => all3 b1a
  | .inr (.inr 1) => all2 b2a
  | .inr (.inr 2) => all1 b3a

/-- The share of its source a transfer holds: a weight half is read by the device's own products meanwhile. -/
def qsh : Tr → PosShare TreeShare
  | .inl _ => (fullShare).left
  | .inr _ => fullShare

/-- The units a transfer credits each of its two semaphores. -/
def Nn (t : Tr) : ℕ := (dstM t).view.dmaCredit

theorem tsh_pos (t : Tr) : 0 < (tsh t).numel := by
  rcases t with ⟨d, h⟩ | h | h
  · show 0 < S512x4096.numel; decide
  · revert h; decide
  · revert h; decide
theorem Nn_pos (t : Tr) : 0 < Nn t := View.dmaCredit_pos _ (tsh_pos t)

/-! ## Contents -/

abbrev XT (F : FTy → Type) : Type := S4096x512.Idx → Elt F .fp8e5m2
abbrev WT (F : FTy → Type) : Type := S512x8192.Idx → Elt F .fp8e5m2

theorem inb_chunk (j : Fin 8) : ∀ a, (![512 * j.val, 0] : Fin 2 → ℕ) a + S512x512.size a ≤ S4096x512.size a := by
  revert j; decide
abbrev rChunk (j : Dev nD) : Rect S4096x512 := Rect.unit (s := S4096x512) ![512 * j.val, 0] S512x512.size (inb_chunk j)

/-- The `j`-th block of rows of an `x` block. -/
def xP (x : XT F) (j : Dev nD) : S512x512.Idx → Elt F .fp8e5m2 := fun i => x ((rChunk j).emb i)
/-- A direction's half of a weight block. -/
def wP (w : WT F) (d : Bool) : S512x4096.Idx → Elt F .fp8e5m2 := fun i => w ((rHalf d).emb i)

/-- The tile of a stack of tiles at one index, -/
abbrev tileIdx {n : ℕ} (i : (⟨3, ![n, 512, 512]⟩ : Shape).Idx) : S512x512.Idx := fun a => match a with | 0 => i 1 | 1 => i 2
/-- and the stack of the tiles of `x` for the devices from `c` on in direction `d`. -/
def stk (x : XT F) (d : Bool) (c : Dev nD) {n : ℕ} : (⟨3, ![n, 512, 512]⟩ : Shape).Idx → Elt F .fp8e5m2 :=
  fun i => xP x (rot d (i 0).val c) (tileIdx i)

variable (X : Dev nD → XT F) (Wt : Dev nD → WT F)

/-- What a transfer leaves on its receiver `c`. -/
def cont : (t : Tr) → (c : Dev nD) → (tsh t).Idx → Elt F .fp8e5m2
  | .inl (d, h), c => wP (Wt (rot (!d) (h.val + 1) c)) d
  | .inr (.inl 0), c => stk (n := 4) (X (rot false 1 c)) true c
  | .inr (.inl 1), c => stk (n := 3) (X (rot false 2 c)) true c
  | .inr (.inl 2), c => stk (n := 2) (X (rot false 3 c)) true c
  | .inr (.inl 3), c => stk (n := 1) (X (rot false 4 c)) true c
  | .inr (.inr 0), c => stk (n := 3) (X (rot true 1 c)) false c
  | .inr (.inr 1), c => stk (n := 2) (X (rot true 2 c)) false c
  | .inr (.inr 2), c => stk (n := 1) (X (rot true 3 c)) false c

end Cert.RingMatmul

end
-- ==== Proof.Sched.lean ====
/-
  The schedule of the semaphores: who pays each cell what, what a payment hands over, at which level a wait stands.
-/
module

public import proofs.«01_k».proof.Proof.Transfers
public import Idealize.ShloMosaic.Lib.Pipeline.TalkSites
public import Idealize.ShloMosaic.Lib.Pipeline.TalkSched

@[expose] public section

set_option maxRecDepth 16384

noncomputable section

namespace Cert.RingMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slot slotInv readerAt released writeTok)
open Idealize.ShloMosaic.TalkSites (Pay tallyL tallyL_pos)

variable {F : FTy → Type} [FloatOps F]

/-! ## The resource algebra: the pipeline's copy, the cells' rounds, the releases of the weight slots -/

/-- A weight slot: the device it lies on, the direction, its number. -/
abbrev SK : Type := Dev nD × Bool × Fin 3
abbrev UB : Type := URounds (GSem nD τ sig) (Fin 3)
abbrev UU : Type := UR sig nD τ × (UB × USlots SK)

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := (Emb.inl : Emb UB (UB × USlots SK)).trans embR
abbrev ES : Emb (USlots SK) (MT nD τ sig ℕ (Elt F) ℕ UU ℕ) := (Emb.inr : Emb (USlots SK) (UB × USlots SK)).trans embR

variable (X : Dev nD → XT F) (Wt : Dev nD → WT F)

/-! ## What changes hands -/

/-- A transfer's source on the sender `c`, as it is taken and given back; -/
def srcPts (t : Tr) (c : Dev nD) : sProp 𝕄 := owns (c : Thread nD τ) (srcM t) (qsh t) (cont X Wt t (nxt (dir t) c))
/-- its target on the receiver `c`, when it has arrived, -/
def dstPts (t : Tr) (c : Dev nD) : sProp 𝕄 := owns (c : Thread nD τ) (dstM t) fullShare (cont X Wt t c)
/-- and before, holding anything. -/
def landing (t : Tr) (c : Dev nD) : sProp 𝕄 := slot ((dstM t).view.loc (c : Thread nD τ)) (dstM t).view.set

instance srcPts_storable (t : Tr) (c : Dev nD) : BI.Storable (upEmb : UEmb _ 𝕄) (srcPts X Wt t c) := by unfold srcPts; infer_instance
instance dstPts_storable (t : Tr) (c : Dev nD) : BI.Storable (upEmb : UEmb _ 𝕄) (dstPts X Wt t c) := by unfold dstPts; infer_instance
instance landing_storable (t : Tr) (c : Dev nD) : BI.Storable (upEmb : UEmb _ 𝕄) (landing (F := F) t c) := by unfold landing; infer_instance

/-- The landing buffers of a direction on `c`: four weight slots, the buffers of its `x` stacks. -/
def landings : Bool → Dev nD → sProp 𝕄
  | true, c => iprop(landing (trW true 0) c ∗ landing (trW true 1) c ∗ landing (trW true 2) c ∗ landing (trW true 3) c
      ∗ landing (trXc 0) c ∗ landing (trXc 1) c ∗ landing (trXc 2) c ∗ landing (trXc 3) c)
  | false, c => iprop(landing (trW false 0) c ∗ landing (trW false 1) c ∗ landing (trW false 2) c ∗ landing (trW false 3) c
      ∗ landing (trXa 0) c ∗ landing (trXa 1) c ∗ landing (trXa 2) c)

instance landings_storable (d : Bool) (c : Dev nD) : BI.Storable (upEmb : UEmb _ 𝕄) (landings (F := F) d c) := by
  cases d <;> unfold landings <;> infer_instance

/-- That the first `n` reused slots of direction `d` on device `c` are free again. -/
def freed (d : Bool) (n : ℕ) (c : Dev nD) : sProp 𝕄 := bigSep (Finset.univ.filter fun i : Fin 3 => i.val < n) fun i => released ES (c, d, i) 1

instance freed_persistent (d : Bool) (n : ℕ) (c : Dev nD) : BI.Persistent (freed (F := F) d n c) := by unfold freed; infer_instance
instance freed_storable (d : Bool) (n : ℕ) (c : Dev nD) : BI.Storable (upEmb : UEmb _ 𝕄) (freed (F := F) d n c) := by
  unfold freed; infer_instance

/-! ## The schedule -/

/-- The duties of a cell's kind: two at the barrier (its direction's number), three credits, one transfer. -/
def dutK : CK → Finset (Fin 3)
  | .bar => {0, 1}
  | .cr _ => Finset.univ
  | _ => {0}
def amtK : CK → ℕ
  | .bar => 1
  | .cr _ => 1
  | .snd t => Nn t
  | .rcv t => Nn t
/-- The barrier's duty of a direction, and back. -/
def dnum : Bool → Fin 3 | true => 0 | false => 1
def numd (j : Fin 3) : Bool := j == 0
theorem numd_dnum (d : Bool) : numd (dnum d) = d := by revert d; decide
theorem dnum_mem (d : Bool) : dnum d ∈ dutK .bar := by revert d; decide

def payK (c : Dev nD) : CK → Fin 3 → sProp 𝕄
  | .bar, j => landings (numd j) (nxt (numd j) c)
  | .cr d, j => freed d (j.val + 1) (nxt d c)
  | .snd t, _ => srcPts X Wt t c
  | .rcv t, _ => dstPts X Wt t c

theorem payK_bar (c : Dev nD) (j : Fin 3) : payK X Wt c .bar j = landings (numd j) (nxt (numd j) c) := rfl
theorem payK_cr (c : Dev nD) (d : Bool) (j : Fin 3) : payK X Wt c (.cr d) j = freed d (j.val + 1) (nxt d c) := rfl
theorem payK_snd (c : Dev nD) (t : Tr) (j : Fin 3) : payK X Wt c (.snd t) j = srcPts X Wt t c := rfl
theorem payK_rcv (c : Dev nD) (t : Tr) (j : Fin 3) : payK X Wt c (.rcv t) j = dstPts X Wt t c := rfl

instance payK_storable (c : Dev nD) (k : CK) (j : Fin 3) : BI.Storable (upEmb : UEmb _ 𝕄) (payK X Wt c k j) := by
  cases k <;> unfold payK <;> infer_instance

theorem amtK_pos (k : CK) : 0 < amtK k := by
  cases k with
  | bar => exact Nat.one_pos
  | cr d => exact Nat.one_pos
  | snd t => exact Nn_pos t
  | rcv t => exact Nn_pos t

def Rd : Rounds.Schedule (GSem nD τ sig) (Fin 3) 𝕄 where
  duties g r := if r = 0 ∧ g.1.2 = .tc then ((dec g.2).map dutK).getD ∅ else ∅
  unitless _ := False
  amount g _ _ := ((dec g.2).map amtK).getD 1
  payload g _ d := ((dec g.2).map fun k => payK X Wt g.1.1 k d).getD iprop(emp)
  amount_pos g _ _ _ := by
    cases dec g.2 with
    | none => exact Nat.one_pos
    | some k => exact amtK_pos k

instance Rd_payload_storable (g : GSem nD τ sig) (r : ℕ) (d : Fin 3) :
    BI.Storable (upEmb : UEmb _ 𝕄) ((Rd X Wt).payload g r d) := by
  show BI.Storable upEmb (((dec g.2).map fun k => payK X Wt g.1.1 k d).getD iprop(emp))
  cases dec g.2 with
  | none => show BI.Storable upEmb (iprop(emp) : sProp 𝕄); infer_instance
  | some k => exact payK_storable X Wt g.1.1 k d

theorem duties_k (c : Dev nD) (k : CK) : (Rd X Wt).duties (kcell (c, k)) 0 = dutK k := by
  show (if 0 = 0 ∧ (c : Thread nD τ).2 = .tc then ((dec (csem k)).map dutK).getD ∅ else ∅) = dutK k
  rw [if_pos ⟨rfl, rfl⟩, dec_csem]; rfl
theorem duties_later (g : GSem nD τ sig) : ∀ r, 1 ≤ r → (Rd X Wt).duties g r = ∅ := fun r hr => by
  dsimp only [Rd]; exact if_neg fun h => by omega
theorem amount_k (c : Dev nD) (k : CK) (r : ℕ) (d : Fin 3) : (Rd X Wt).amount (kcell (c, k)) r d = amtK k := by
  show ((dec (csem k)).map amtK).getD 1 = amtK k
  rw [dec_csem]; rfl
theorem payload_k (c : Dev nD) (k : CK) (r : ℕ) (d : Fin 3) : (Rd X Wt).payload (kcell (c, k)) r d = payK X Wt c k d := by
  show ((dec (csem k)).map fun k => payK X Wt c k d).getD iprop(emp) = _
  rw [dec_csem]; rfl
theorem expect_k (c : Dev nD) (k : CK) : (Rd X Wt).expect (kcell (c, k)) 0 = (dutK k).card * amtK k := by
  unfold Schedule.expect Schedule.amountOf
  rw [duties_k, Finset.sum_congr rfl fun d _ => amount_k X Wt c k 0 d, Finset.sum_const, smul_eq_mul]

/-- All a wait at the end of a one-duty cell brings. -/
theorem rest_one (c : Dev nD) (k : CK) (hk : dutK k = {0}) :
    bigSep ((Rd X Wt).duties (kcell (c, k)) 0 \ ∅) (fun d => (Rd X Wt).payload (kcell (c, k)) 0 d) = payK X Wt c k 0 := by
  rw [Finset.sdiff_empty, duties_k, hk, bigSep_singleton, payload_k]

/-! ## What a device owes; the levels -/

/-- The payment of a step, if it is one. -/
def payP (c : Dev nD) (e : Ev) : Option (Pay nD τ sig) :=
  (pay e).map fun p => (kcell (nxt p.2.1 c, p.1), p.2.2, amtK p.1)
/-- What the steps of `l` pay. -/
def pays (c : Dev nD) (l : List Ev) : CellTallies nD τ sig ℕ := tallyL (l.filterMap (payP c))

def L (g : GSem nD τ sig) : Finset ℕ := if g.1.2 = .tc then {0, 1, 2} else ∅
def lv (g : GSem nD τ sig) (i : ℕ) : ℕ := ((dec g.2).map fun k => lvK k i).getD 0

theorem L_of_ne (g : GSem nD τ sig) (h : g.1.2 ≠ .tc) : L g = ∅ := if_neg h
theorem mem_L (c : Dev nD) (sm : SemLoc sig) {i : ℕ} (h : i < 3) : i ∈ L ((c : Thread nD τ), sm) := by
  show i ∈ (if (c : Thread nD τ).2 = .tc then ({0, 1, 2} : Finset ℕ) else ∅)
  rw [if_pos rfl, Finset.mem_insert, Finset.mem_insert, Finset.mem_singleton]; omega
theorem lv_k (c : Dev nD) (k : CK) (i : ℕ) : lv (kcell (c, k)) i = lvK k i := by
  show ((dec (csem k)).map fun k => lvK k i).getD 0 = _
  rw [dec_csem]; rfl

theorem pay_lt {e : Ev} {p : CK × Bool × ℕ} (h : pay e = some p) : p.2.2 < 3 := by
  cases e <;> simp only [pay, Option.some.injEq, reduceCtorEq] at h <;> subst h <;> simp

/-- A wait at a level that everything the remaining steps pay lies above is allowed. -/
theorem mayWait_of (c : Dev nD) (sm : SemLoc sig) (i : ℕ) (hi : i < 3) (l : List Ev)
    (h : above (lv ((c : Thread nD τ), sm) i) l = true) :
    (levAts L lv : sProp 𝕄) ⊢ MayWait (c : Thread nD τ) sm i (pays c l) := by
  have key (g : GSem nD τ sig) (u : ℕ) (hg : 0 < pays c l g u) :
      ∃ e ∈ l, ∃ p, pay e = some p ∧ g = kcell (nxt p.2.1 c, p.1) ∧ u = p.2.2 := by
    obtain ⟨x, hx, h1, h2⟩ := tallyL_pos hg
    obtain ⟨e, he, hp⟩ := List.mem_filterMap.mp hx
    unfold payP at hp
    obtain ⟨p, hp1, rfl⟩ := Option.map_eq_some_iff.mp hp
    exact ⟨e, he, p, hp1, h1, h2⟩
  refine MayOwe.of_cut (L := L) (lev := lv) (lv ((c : Thread nD τ), sm) i) (fun p hp => ?_) (fun g u hg => ?_) (fun p hp => ?_) (fun g u hg => ?_)
  · rw [Finset.mem_singleton.mp hp]; exact mem_L c sm hi
  · obtain ⟨e, he, p, hp, rfl, rfl⟩ := key g u hg
    exact mem_L _ _ (pay_lt hp)
  · rw [Finset.mem_singleton.mp hp]
  · obtain ⟨e, he, p, hp, rfl, rfl⟩ := key g u hg
    have h1 := List.all_eq_true.mp h e he
    rw [hp] at h1
    rw [lv_k]
    exact of_decide_eq_true h1

theorem pays_cons_none (c : Dev nD) {e : Ev} (l : List Ev) (h : pay e = none) : pays c (e :: l) = pays c l := by
  unfold pays; rw [List.filterMap_cons_none]; unfold payP; rw [h]; rfl
theorem pays_cons_some (c : Dev nD) {e : Ev} (l : List Ev) {p : CK × Bool × ℕ} (h : pay e = some p) :
    pays c (e :: l) = pays c l + tallyAt (kcell (nxt p.2.1 c, p.1)) p.2.2 (amtK p.1) := by
  unfold pays
  rw [List.filterMap_cons_some (b := (kcell (nxt p.2.1 c, p.1), p.2.2, amtK p.1)) (by unfold payP; rw [h]; rfl), tallyL, add_comm]

end Cert.RingMatmul

end
-- ==== Proof.Steps.lean ====
/-
  The protocol's steps as rules: what a device holds before and after each of them. `Ctl c l` is the control state of
  device `c` when the steps `l` remain: what it still owes, the tokens those steps use up, the closed cells' counters.
-/
module

public import proofs.«01_k».proof.Proof.Sched

@[expose] public section

set_option maxRecDepth 16384

noncomputable section

namespace Cert.RingMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slot slotInv readerAt released writeTok)

variable {F : FTy → Type} [FloatOps F]

local notation "𝕄" => MT nD τ sig ℕ (Elt F) ℕ UU ℕ

variable (X : Dev nD → XT F) (Wt : Dev nD → WT F)

abbrev 𝒱₀ : Variants := Variants.none

/-- The transfer that fills one of the reused slots first. -/
def slotT (d : Bool) (i : Fin 3) : Tr := trW d ⟨i.val, by have := i.isLt; omega⟩

/-- What every device knows throughout: every cell's invariant and that its first round has begun, the levels, the
    reused slots' invariants. -/
def Rec (K : Dev nD × CK → ℕ) (Ks : SK → ℕ) : sProp 𝕄 :=
  iprop((bigSep Finset.univ fun ck => cellInv ER (Rd X Wt) (K ck) (kcell ck)) ∗ (bigSep Finset.univ fun ck => reached ER (kcell ck) 0)
    ∗ levAts L lv ∗ (bigSep Finset.univ fun k : SK => slotInv ES (Ks k) k (landing (slotT k.2.1 k.2.2) k.1)))

instance Rec_persistent (K : Dev nD × CK → ℕ) (Ks : SK → ℕ) : BI.Persistent (Rec X Wt K Ks) := by unfold Rec; infer_instance

/-- What a step uses up. -/
def tok (c : Dev nD) : Ev → sProp 𝕄
  | .sigB d => dutyTok ER (kcell (frm d c, .bar)) 0 (dnum d)
  | .wbar => iprop(cred (tallyAt (kcell (c, .bar)) 0 2) ∗ atPos ER (kcell (c, .bar)) 0 ∅ 0)
  | .send t => iprop(dutyTok ER (kcell (c, .snd t)) 0 0 ∗ dutyTok ER (kcell (nxt (dir t) c, .rcv t)) 0 0)
  | .recv t => iprop(cred (tallyAt (kcell (c, .rcv t)) 0 (Nn t)) ∗ atPos ER (kcell (c, .rcv t)) 0 ∅ 0)
  | .wsnd t => atPos ER (kcell (c, .snd t)) 0 ∅ 0
  | .sig d j => iprop(dutyTok ER (kcell (frm d c, .cr d)) 0 j ∗ readerAt ES (c, d, j) 0)
  | .wcr d j => iprop(cred (tallyAt (kcell (c, .cr d)) j.val 1) ∗ writeTok ES (nxt d c, d, j) 1)

/-- The control state with the steps `l` to come. -/
def Ctl (c : Dev nD) (l : List Ev) : sProp 𝕄 :=
  iprop((∃ W, owes (c : Thread nD τ) (pays c l) W) ∗ bigSepL l (tok c)
    ∗ ∃ z : List CK, ⌜(z ++ l.filterMap closes).Perm (evs.filterMap closes)⌝ ∗ bigSepL z fun k => semVal (kcell (c, k)) 0)

/-- A credit cell of which `j` units have been waited for. -/
def crSt (c : Dev nD) (d : Bool) (j : ℕ) : sProp 𝕄 :=
  iprop(∃ T : Finset (Fin 3), ⌜j ≤ T.card⌝ ∗ atPos ER (kcell (c, .cr d)) 0 T j ∗ bigSep T fun i => freed d (i.val + 1) (nxt d c))

/-- The credit of a transfer under way, by which its sender waits for it to have left. -/
def sent (t : Tr) (c : Dev nD) : sProp 𝕄 := cred (tallyAt (kcell (c, .snd t)) 0 (Nn t))

section Rec
variable (K : Dev nD × CK → ℕ) (Ks : SK → ℕ)

theorem Rec_inv (ck : Dev nD × CK) : Rec X Wt K Ks ⊢ cellInv ER (Rd X Wt) (K ck) (kcell ck) := by
  unfold Rec; iintro ⟨H, -⟩
  iapply (show _ ⊢ cellInv ER (Rd X Wt) (K ck) (kcell ck) from bigSep_elim (Finset.mem_univ ck)) $$ H
theorem Rec_reached (ck : Dev nD × CK) : Rec X Wt K Ks ⊢ reached ER (kcell ck) 0 := by
  unfold Rec; iintro ⟨-, H, -⟩
  iapply (show _ ⊢ reached ER (kcell ck) 0 from bigSep_elim (Finset.mem_univ ck)) $$ H
theorem Rec_lev : Rec X Wt K Ks ⊢ levAts L lv := by
  unfold Rec; iintro ⟨-, -, H, -⟩; iexact H
theorem Rec_slot (k : SK) : Rec X Wt K Ks ⊢ slotInv ES (Ks k) k (landing (slotT k.2.1 k.2.2) k.1) := by
  unfold Rec; iintro ⟨-, -, -, H⟩
  iapply (show _ ⊢ slotInv ES (Ks k) k (landing (slotT k.2.1 k.2.2) k.1) from bigSep_elim (Finset.mem_univ k)) $$ H

/-- A step that pays, without its rule: the control state before it taken apart. -/
theorem Ctl_pay (c : Dev nD) {e : Ev} {l : List Ev} {p : CK × Bool × ℕ} (hp : pay e = some p) (hc : closes e = none) :
    (Ctl c (e :: l) : sProp 𝕄) ⊢ iprop(∃ W, owes (c : Thread nD τ) (pays c l + tallyAt (kcell (nxt p.2.1 c, p.1)) p.2.2 (amtK p.1)) W ∗ tok c e
      ∗ (∀ W, owes (c : Thread nD τ) (pays c l) W -∗ Ctl c l)) := by
  unfold Ctl
  rw [pays_cons_some c l hp, bigSepL_cons', List.filterMap_cons_none hc]
  iintro ⟨⟨%W, Ho⟩, ⟨Ht, Htl⟩, Hz⟩
  iexists W
  isplitl [Ho]; · iexact Ho
  isplitl [Ht]; · iexact Ht
  iintro %W' Ho
  isplitl [Ho]; · iexists W'; iexact Ho
  isplitl [Htl]; · iexact Htl
  iexact Hz

/-- A wait that closes its cell, likewise. -/
theorem Ctl_wait (c : Dev nD) {e : Ev} {l : List Ev} {ck : CK} (hp : pay e = none) (hc : closes e = some ck) :
    (Ctl c (e :: l) : sProp 𝕄) ⊢ iprop(∃ W, owes (c : Thread nD τ) (pays c l) W ∗ tok c e
      ∗ (∀ W, (owes (c : Thread nD τ) (pays c l) W ∗ semVal (kcell (c, ck)) 0) -∗ Ctl c l)) := by
  unfold Ctl
  rw [pays_cons_none c l hp, bigSepL_cons', List.filterMap_cons_some hc]
  iintro ⟨⟨%W, Ho⟩, ⟨Ht, Htl⟩, %z, %hz, Hz⟩
  iexists W
  isplitl [Ho]; · iexact Ho
  isplitl [Ht]; · iexact Ht
  iintro %W' ⟨Ho, Hv⟩
  isplitl [Ho]; · iexists W'; iexact Ho
  isplitl [Htl]; · iexact Htl
  iexists (ck :: z)
  isplitr
  · ipureintro; exact (List.perm_middle.symm).trans hz
  rw [bigSepL_cons']
  isplitl [Hv] <;> iassumption

/-- A wait that leaves its cell open, likewise. -/
theorem Ctl_part (c : Dev nD) {e : Ev} {l : List Ev} (hp : pay e = none) (hc : closes e = none) :
    (Ctl c (e :: l) : sProp 𝕄) ⊢ iprop(∃ W, owes (c : Thread nD τ) (pays c l) W ∗ tok c e
      ∗ (∀ W, owes (c : Thread nD τ) (pays c l) W -∗ Ctl c l)) := by
  unfold Ctl
  rw [pays_cons_none c l hp, bigSepL_cons', List.filterMap_cons_none hc]
  iintro ⟨⟨%W, Ho⟩, ⟨Ht, Htl⟩, Hz⟩
  iexists W
  isplitl [Ho]; · iexact Ho
  isplitl [Ht]; · iexact Ht
  iintro %W' Ho
  isplitl [Ho]; · iexists W'; iexact Ho
  isplitl [Htl]; · iexact Htl
  iexact Hz

/-- The barrier signal of direction `d`: the landing buffers of that direction go to the neighbour that fills them. -/
theorem step_sigB {α : Type} {Q : α → sProp 𝕄} {k : PUnit → Prog (TpuEff nD τ sig (Elt F) Λ₀ .tc) α}
    (c n : Dev nD) (d : Bool) (hn : n = frm d c) (l : List Ev) {a : ℤ} (ha : a = ((1 : ℕ) : ℤ)) :
    iprop(Rec X Wt K Ks ∗ Ctl c (.sigB d :: l) ∗ landings d c)
      ⊢ iprop((Ctl c l -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS a) k) Q) := by
  subst hn ha
  iintro ⟨#HR, HC, Hl⟩ Hk
  ihave HC' := (Ctl_pay c (p := (.bar, !d, 0)) rfl rfl) $$ HC
  icases HC' with ⟨%W, Ho, Ht, Hback⟩
  unfold tok
  iapply (Rounds.wp_signal 𝒱₀ ER (Rd X Wt) (c : Thread nD τ) none (dst := (frm d c : Thread nD τ)) (κ := K (frm d c, .bar)) (r := 0) (d := dnum d)
      (by rw [show ((frm d c : Thread nD τ), SemLoc.reg barS) = kcell (frm d c, .bar) from rfl, duties_k]; exact dnum_mem d)
      (amount_k X Wt (frm d c) .bar 0 (dnum d)) 0 (pays c l) rfl) $$ [Ho Ht Hl]
  · isplitr; · iapply (Rec_inv X Wt K Ks (frm d c, .bar)); iexact HR
    isplitl [Ho]; · iexact Ho
    isplitl [Ht]; · iexact Ht
    isplitl [Hl]
    · rw [show ((frm d c : Thread nD τ), SemLoc.reg barS) = kcell (frm d c, .bar) from rfl, payload_k]
      rw [payK_bar, numd_dnum, nxt_frm]; iexact Hl
    iapply (Rec_reached X Wt K Ks (frm d c, .bar)); iexact HR
  iintro Ho
  iapply Hk; iapply Hback; iexact Ho

/-- The barrier wait: both neighbours' landing buffers. -/
theorem step_wbar {α : Type} {Q : α → sProp 𝕄} {k : PUnit → Prog (TpuEff nD τ sig (Elt F) Λ₀ .tc) α}
    (c : Dev nD) (l : List Ev) (hl : above 1 l = true) {a : ℤ} (ha : a = ((2 : ℕ) : ℤ)) :
    iprop(Rec X Wt K Ks ∗ Ctl c (.wbar :: l))
      ⊢ iprop(((Ctl c l ∗ landings true (nxt true c) ∗ landings false (nxt false c)) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS a) k) Q) := by
  subst ha
  iintro ⟨#HR, HC⟩ Hk
  ihave HC' := (Ctl_wait c (ck := .bar) rfl rfl) $$ HC
  icases HC' with ⟨%W, Ho, Ht, Hback⟩
  unfold tok
  icases Ht with ⟨Hc, Hat⟩
  iapply (Rounds.wp_wait_rest_token 𝒱₀ ER (Rd X Wt) (c : Thread nD τ) none (κ := K (c, .bar)) (sm := csem .bar)
      (wpE_semWait_eq 𝒱₀ (c : Thread nD τ) none Set.univ) (Set.mem_univ _) 0 (O := pays c l) (W := W) (R := 0) (m := 0) (T := ∅)
      (by rw [expect_k]; rfl)) $$ [Hc Ho Hat]
  · isplitr; · iapply (Rec_inv X Wt K Ks (c, .bar)); iexact HR
    isplitl [Hc]; · iexact Hc
    isplitl [Ho]; · iexact Ho
    isplitr
    · iapply (mayWait_of c (csem .bar) 0 (by decide) l (by rw [show lv ((c : Thread nD τ), csem .bar) 0 = 1 from lv_k c .bar 0]; exact hl))
      iapply (Rec_lev X Wt K Ks); iexact HR
    iexact Hat
  iintro ⟨Ho, Hat, -, Hpay⟩
  imod (Rounds.cell_close ER (Rd X Wt) (Set.mem_univ (K (c, .bar))) (fun h => h) (R := 0 + 1) (duties_later X Wt (kcell (c, .bar)))) $$ [Hat] with Hz
  · isplitr; · iapply (Rec_inv X Wt K Ks (c, .bar)); iexact HR
    iexact Hat
  ihave Hp := (Entails.of_eq (show bigSep ((Rd X Wt).duties ((c : Thread nD τ), csem .bar) 0 \ ∅) (fun d => (Rd X Wt).payload ((c : Thread nD τ), csem .bar) 0 d)
      = iprop(landings true (nxt true c) ∗ landings false (nxt false c)) from by
    rw [Finset.sdiff_empty, show ((c : Thread nD τ), csem .bar) = kcell (c, .bar) from rfl, duties_k,
      bigSep_eq_bigSepL_of_eq [0, 1] (by decide) (by decide), bigSepL_cons_cons, bigSepL_singleton, payload_k, payload_k]
    rfl)) $$ Hpay
  iapply Hk
  isplitl [Ho Hz Hback]
  · iapply Hback; isplitl [Ho] <;> iassumption
  iexact Hp

/-- The start of a transfer. -/
theorem step_send {α : Type} {Q : α → sProp 𝕄} {k : PUnit → Prog (TpuEff nD τ sig (Elt F) Λ₀ .tc) α}
    (c n : Dev nD) (t : Tr) (hn : n = nxt (dir t) c) (l : List Ev)
    {src dst : Memref sig .tc .vmem (tsh t) .fp8e5m2} (hs : src = srcM t) (hd : dst = dstM t)
    {sS sR : DmaSem sig} (hS : sS = sndSem t) (hR : sR = rcvSem t)
    {hsc : (dst : Memref sig (Dev.tc n : Thread nD τ).2.kind .vmem (tsh t) .fp8e5m2).view.ref.isScScratch = false}
    {hsrc : src.view.WordExact} {hdst : dst.view.WordExact}
    {hsem : DmaTarget.Typed .vmem (.dma sR) (.remote (Dev.tc n : Thread nD τ) (dst : Memref sig (Dev.tc n : Thread nD τ).2.kind .vmem (tsh t) .fp8e5m2) (.dma sS) hsc)} :
    iprop(Rec X Wt K Ks ∗ Ctl c (.send t :: l) ∗ srcPts X Wt t c ∗ landing t (nxt (dir t) c))
      ⊢ iprop(((Ctl c l ∗ sent t c) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn hs hd hS hR
  iintro ⟨#HR, HC, Hs, Hl⟩ Hk
  ihave HC' := (Ctl_pay c (p := (.rcv t, dir t, 0)) rfl rfl) $$ HC
  icases HC' with ⟨%W, Ho, Ht, Hback⟩
  unfold tok srcPts owns landing slot
  icases Ht with ⟨Ht1, Ht2⟩
  icases Hs with ⟨%fs, %hfs, Hs⟩
  icases Hl with ⟨%fd, Hl⟩
  iapply (Rounds.wp_send_pointsTo 𝒱₀ ER (Rd X Wt) (c : Thread nD τ) none (κ₁ := K (c, .snd t)) (κ₂ := K (nxt (dir t) c, .rcv t))
    (src := srcM t) (dst := (dstM t : Memref sig (Dev.tc (nxt (dir t) c) : Thread nD τ).2.kind .vmem (tsh t) .fp8e5m2)) (q := qsh t) (fs := fs)
    (sS := csem (.snd t)) (sem := csem (.rcv t)) (c' := (nxt (dir t) c : Thread nD τ))
    (r₁ := 0) (r₂ := 0) (d₁ := 0) (d₂ := 0) (fd := fd)
    (by rw [show ((c : Thread nD τ), csem (.snd t)) = kcell (c, .snd t) from rfl, duties_k]; exact Finset.mem_singleton_self _)
    (by rw [show ((nxt (dir t) c : Thread nD τ), csem (.rcv t)) = kcell (nxt (dir t) c, .rcv t) from rfl, duties_k]; exact Finset.mem_singleton_self _)
    0 0 (Nn t) rfl (amount_k X Wt c (.snd t) 0 0) (amount_k X Wt (nxt (dir t) c) (.rcv t) 0 0) (pays c l) rfl (W := W)
    (by
      rw [show ((c : Thread nD τ), csem (.snd t)) = kcell (c, .snd t) from rfl, payload_k]
      rw [payK_snd]; unfold srcPts; rw [← hfs]; exact owns_intro _ _ _ _)
    (by
      rw [show ((nxt (dir t) c : Thread nD τ), csem (.rcv t)) = kcell (nxt (dir t) c, .rcv t) from rfl, payload_k]
      rw [payK_rcv]; unfold dstPts
      refine (owns_intro (nxt (dir t) c : Thread nD τ) (dstM t) _ _).trans (Entails.of_eq ?_)
      rw [View.read_write_univ, hfs])) $$ [Hs Hl Ho Ht1 Ht2]
  · isplitr; · iapply (Rec_inv X Wt K Ks (c, .snd t)); iexact HR
    isplitr; · iapply (Rec_inv X Wt K Ks (nxt (dir t) c, .rcv t)); iexact HR
    isplitl [Hs]; · iexact Hs
    isplitl [Hl]; · iexact Hl
    isplitl [Ho]; · iexact Ho
    isplitl [Ht1]; · iexact Ht1
    isplitr; · iapply (Rec_reached X Wt K Ks (c, .snd t)); iexact HR
    isplitl [Ht2]; · iexact Ht2
    iapply (Rec_reached X Wt K Ks (nxt (dir t) c, .rcv t)); iexact HR
  iintro ⟨Hc, Ho⟩
  iapply Hk
  isplitl [Ho Hback]; · iapply Hback; iexact Ho
  unfold sent; iexact Hc

/-- The wait for a transfer to have arrived. -/
theorem step_recv {α : Type} {Q : α → sProp 𝕄} {k : PUnit → Prog (TpuEff nD τ sig (Elt F) Λ₀ .tc) α}
    (c : Dev nD) (t : Tr) (l : List Ev) (hl : above (10 * hop t) l = true)
    {sh : Shape} {src : Memref sig .tc .vmem sh .fp8e5m2} {dst : Memref sig .tc .vmem (tsh t) .fp8e5m2} (hd : dst = dstM t)
    {sR : DmaSem sig} (hR : sR = rcvSem t) {hsrc : src.view.WordExact} {hdst : dst.view.WordExact} :
    iprop(Rec X Wt K Ks ∗ Ctl c (.recv t :: l))
      ⊢ iprop(((Ctl c l ∗ dstPts X Wt t c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sR src dst hsrc hdst) k) Q) := by
  subst hd hR
  iintro ⟨#HR, HC⟩ Hk
  ihave HC' := (Ctl_wait c (ck := .rcv t) rfl rfl) $$ HC
  icases HC' with ⟨%W, Ho, Ht, Hback⟩
  unfold tok
  icases Ht with ⟨Hc, Hat⟩
  iapply (Rounds.wp_wait_rest_token 𝒱₀ ER (Rd X Wt) (c : Thread nD τ) none (κ := K (c, .rcv t)) (sm := csem (.rcv t)) (k' := Nn t)
      (wpE_waitDma2_eq 𝒱₀ (c : Thread nD τ) none Set.univ) (Set.mem_univ _) 0 (O := pays c l) (W := W) (R := 0) (m := 0) (T := ∅)
      (by rw [expect_k]; show 0 + Nn t = 1 * Nn t; omega)) $$ [Hc Ho Hat]
  · isplitr; · iapply (Rec_inv X Wt K Ks (c, .rcv t)); iexact HR
    isplitl [Hc]; · iexact Hc
    isplitl [Ho]; · iexact Ho
    isplitr
    · iapply (mayWait_of c (csem (.rcv t)) 0 (by decide) l (by rw [show lv ((c : Thread nD τ), csem (.rcv t)) 0 = 10 * hop t from lv_k c (.rcv t) 0]; exact hl))
      iapply (Rec_lev X Wt K Ks); iexact HR
    iexact Hat
  iintro ⟨Ho, Hat, -, Hpay⟩
  imod (Rounds.cell_close ER (Rd X Wt) (Set.mem_univ (K (c, .rcv t))) (fun h => h) (R := 0 + 1) (duties_later X Wt (kcell (c, .rcv t)))) $$ [Hat] with Hz
  · isplitr; · iapply (Rec_inv X Wt K Ks (c, .rcv t)); iexact HR
    iexact Hat
  ihave Hp := (Entails.of_eq ((rest_one X Wt c (.rcv t) rfl).trans (payK_rcv X Wt c t 0))) $$ Hpay
  iapply Hk
  isplitl [Ho Hz Hback]
  · iapply Hback; isplitl [Ho] <;> iassumption
  iexact Hp

/-- The wait for a transfer to have left. -/
theorem step_wsnd {α : Type} {Q : α → sProp 𝕄} {k : PUnit → Prog (TpuEff nD τ sig (Elt F) Λ₀ .tc) α}
    (c : Dev nD) (t : Tr) (l : List Ev) (hl : above 0 l = true)
    {sh : Shape} {src : Memref sig .tc .vmem sh .fp8e5m2} {dst : Memref sig .tc .vmem (tsh t) .fp8e5m2} (hd : dst.view.dmaCredit = Nn t)
    {sS : DmaSem sig} (hS : sS = sndSem t) {hsrc : src.view.WordExact} {hdst : dst.view.WordExact} :
    iprop(Rec X Wt K Ks ∗ Ctl c (.wsnd t :: l) ∗ sent t c)
      ⊢ iprop(((Ctl c l ∗ srcPts X Wt t c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS src dst hsrc hdst) k) Q) := by
  subst hS
  iintro ⟨#HR, HC, Hc⟩ Hk
  ihave HC' := (Ctl_wait c (ck := .snd t) rfl rfl) $$ HC
  icases HC' with ⟨%W, Ho, Hat, Hback⟩
  unfold tok sent
  iapply (Rounds.wp_wait_rest_token 𝒱₀ ER (Rd X Wt) (c : Thread nD τ) none (κ := K (c, .snd t)) (sm := csem (.snd t)) (k' := Nn t)
      (fun Kt => by rw [← hd]; exact wpE_waitDma2_eq 𝒱₀ (c : Thread nD τ) none Set.univ Kt) (Set.mem_univ _) 0 (O := pays c l) (W := W) (R := 0) (m := 0) (T := ∅)
      (by rw [expect_k]; show 0 + Nn t = 1 * Nn t; omega)) $$ [Hc Ho Hat]
  · isplitr; · iapply (Rec_inv X Wt K Ks (c, .snd t)); iexact HR
    isplitl [Hc]; · iexact Hc
    isplitl [Ho]; · iexact Ho
    isplitr
    · iapply (mayWait_of c (csem (.snd t)) 0 (by decide) l (by rw [show lv ((c : Thread nD τ), csem (.snd t)) 0 = 0 from lv_k c (.snd t) 0]; exact hl))
      iapply (Rec_lev X Wt K Ks); iexact HR
    iexact Hat
  iintro ⟨Ho, Hat, -, Hpay⟩
  imod (Rounds.cell_close ER (Rd X Wt) (Set.mem_univ (K (c, .snd t))) (fun h => h) (R := 0 + 1) (duties_later X Wt (kcell (c, .snd t)))) $$ [Hat] with Hz
  · isplitr; · iapply (Rec_inv X Wt K Ks (c, .snd t)); iexact HR
    iexact Hat
  ihave Hp := (Entails.of_eq ((rest_one X Wt c (.snd t) rfl).trans (payK_snd X Wt c t 0))) $$ Hpay
  iapply Hk
  isplitl [Ho Hz Hback]
  · iapply Hback; isplitl [Ho] <;> iassumption
  iexact Hp

/-! ## Credits -/

omit X Wt in
theorem freed_zero (d : Bool) (c : Dev nD) : (iprop(emp) : sProp 𝕄) ⊢ freed d 0 c := by
  unfold freed
  rw [show (Finset.univ.filter fun i : Fin 3 => i.val < 0) = ∅ by decide, bigSep_empty]
  exact BI.Entails.refl _

omit X Wt in
/-- One more slot free. -/
theorem freed_succ (d : Bool) (j : Fin 3) (c : Dev nD) : (iprop(freed d j.val c ∗ released ES (c, d, j) 1) : sProp 𝕄) ⊢ freed d (j.val + 1) c := by
  unfold freed
  rw [show (Finset.univ.filter fun i : Fin 3 => i.val < j.val + 1) = insert j (Finset.univ.filter fun i : Fin 3 => i.val < j.val) by revert j; decide,
    bigSep_insert (by revert j; decide)]
  show _ ⊢ iprop(released ES (c, d, j) 1 ∗ bigSep (Finset.univ.filter fun i : Fin 3 => i.val < j.val) fun i => released ES (c, d, i) 1)
  iintro ⟨H, H'⟩
  isplitl [H'] <;> iassumption

omit X Wt in
theorem freed_elim (d : Bool) (n : ℕ) (c : Dev nD) (j : Fin 3) (h : j.val < n) : (freed d n c : sProp 𝕄) ⊢ released ES (c, d, j) 1 := by
  unfold freed
  exact bigSep_elim (i := j) (Finset.mem_filter.mpr ⟨Finset.mem_univ j, h⟩)

omit X Wt in
/-- A set of credits of which one is at least the `j`-th. -/
theorem credits_elim (c : Dev nD) (d : Bool) (j : Fin 3) (S : Finset (Fin 3)) (h : j.val + 1 ≤ S.card) :
    (bigSep S (fun i => freed d (i.val + 1) (nxt d c)) : sProp 𝕄) ⊢ released ES (nxt d c, d, j) 1 := by
  obtain ⟨i, hi, hji⟩ : ∃ i ∈ S, j.val < i.val + 1 := by
    by_contra hn
    have hsub : S ⊆ Finset.univ.filter fun i : Fin 3 => i.val < j.val := fun i hi => by
      rw [Finset.mem_filter]
      refine ⟨Finset.mem_univ i, ?_⟩
      by_contra hlt
      exact hn ⟨i, hi, by omega⟩
    have h1 := Finset.card_le_card hsub
    have h2 : (Finset.univ.filter fun i : Fin 3 => i.val < j.val).card = j.val := (by decide : ∀ j : Fin 3, (Finset.univ.filter fun i : Fin 3 => i.val < j.val).card = j.val) j
    omega
  exact (bigSep_elim hi).trans (freed_elim d _ _ j hji)

omit X Wt in
theorem sets_join (T S : Finset (Fin 3)) (h : T ⊆ S) (Φ : Fin 3 → sProp 𝕄) : iprop(bigSep T Φ ∗ bigSep (S \ T) Φ) ⊢ bigSep S Φ := by
  refine Entails.of_eq ?_
  have e := (bigSep_union (Φ := Φ) (Finset.disjoint_sdiff (s := T) (t := S))).symm
  rw [Finset.union_sdiff_of_subset h] at e
  exact e

theorem landing_false (t : Tr) (c : Dev nD) : iprop(landing t c ∗ landing t c) ⊢ (False : sProp 𝕄) := by
  unfold landing
  refine Release.slot_slot_false ?_
  rw [View.set, Finset.map_nonempty]
  exact ⟨Shape.Idx.first (tsh_pos t), Finset.mem_univ _⟩

/-- The grant of the `j`-th credit of direction `d`: the `j`-th slot, read and passed on, is free for its next filling. -/
theorem step_sig {α : Type} {Q : α → sProp 𝕄} {k : PUnit → Prog (TpuEff nD τ sig (Elt F) Λ₀ .tc) α}
    (c n : Dev nD) (d : Bool) (j : Fin 3) (hn : n = frm d c) (l : List Ev) {s : Sem sig} (hs : s = crS d) {a : ℤ} (ha : a = ((1 : ℕ) : ℤ)) :
    iprop(Rec X Wt K Ks ∗ Ctl c (.sig d j :: l) ∗ landing (slotT d j) c ∗ freed d j.val c)
      ⊢ iprop(((Ctl c l ∗ freed d (j.val + 1) c) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) s a) k) Q) := by
  subst hn hs ha
  iintro ⟨#HR, HC, Hl, #Hf⟩ Hk
  ihave HC' := (Ctl_pay c (p := (.cr d, !d, j.val)) rfl rfl) $$ HC
  icases HC' with ⟨%W, Ho, Ht, Hback⟩
  unfold tok
  icases Ht with ⟨Ht, Hr⟩
  imod (Release.slot_release ES (S := landing (slotT d j) c) (Set.mem_univ (Ks (c, d, j))) (landing_false _ _) 0) $$ [Hr Hl] with ⟨-, #Hrel⟩
  · isplitr; · iapply (Rec_slot X Wt K Ks (c, d, j)); iexact HR
    isplitl [Hr] <;> iassumption
  ihave #Hf' := (freed_succ d j c) $$ []
  · isplitr <;> iassumption
  iapply (Rounds.wp_signal 𝒱₀ ER (Rd X Wt) (c : Thread nD τ) none (dst := (frm d c : Thread nD τ)) (κ := K (frm d c, .cr d)) (r := 0) (d := j)
      (by rw [show ((frm d c : Thread nD τ), SemLoc.reg (crS d)) = kcell (frm d c, .cr d) from rfl, duties_k]; exact Finset.mem_univ _)
      (amount_k X Wt (frm d c) (.cr d) 0 j) j.val (pays c l) rfl) $$ [Ho Ht]
  · isplitr; · iapply (Rec_inv X Wt K Ks (frm d c, .cr d)); iexact HR
    isplitl [Ho]; · iexact Ho
    isplitl [Ht]; · iexact Ht
    isplitr
    · rw [show ((frm d c : Thread nD τ), SemLoc.reg (crS d)) = kcell (frm d c, .cr d) from rfl, payload_k]
      rw [payK_cr, nxt_frm]; iexact Hf'
    iapply (Rec_reached X Wt K Ks (frm d c, .cr d)); iexact HR
  iintro Ho
  iapply Hk
  isplitl [Ho Hback]; · iapply Hback; iexact Ho
  iexact Hf'

theorem taken (c : Dev nD) (d : Bool) (j : Fin 3) (S : Finset (Fin 3)) (h : j.val + 1 ≤ S.card) :
    iprop(Rec X Wt K Ks ∗ (bigSep S fun i => freed d (i.val + 1) (nxt d c)) ∗ writeTok ES (nxt d c, d, j) 1)
      ⊢ (|={Set.univ}=> landing (slotT d j) (nxt d c) : sProp 𝕄) := by
  iintro ⟨HR, Hf, Ht⟩
  iapply (Release.slot_take ES (S := landing (slotT d j) (nxt d c)) (Set.mem_univ (Ks (nxt d c, d, j))) 1)
  isplitl [HR]; · iapply (Rec_slot X Wt K Ks (nxt d c, d, j)); iexact HR
  isplitl [Hf]; · iapply (credits_elim c d j S h); iexact Hf
  iexact Ht

/-- A wait for one of the first two credits: the slot it stands for is the sender's to fill. -/
theorem step_wcr {α : Type} {Q : α → sProp 𝕄} {k : PUnit → Prog (TpuEff nD τ sig (Elt F) Λ₀ .tc) α}
    (c : Dev nD) (d : Bool) (j : Fin 3) (hj : closes (.wcr d j) = none) (l : List Ev) (hl : above (10 * (j.val + 3) + 5) l = true) {s : Sem sig} (hs : s = crS d) {a : ℤ} (ha : a = ((1 : ℕ) : ℤ)) :
    iprop(Rec X Wt K Ks ∗ Ctl c (.wcr d j :: l) ∗ crSt c d j.val)
      ⊢ iprop(((Ctl c l ∗ crSt c d (j.val + 1) ∗ landing (slotT d j) (nxt d c)) -∗ wp frame (wpE (defs₀ (F := F)) 𝒱₀ (c : Thread nD τ) none) Set.univ (k ⟨⟩) Q)
          -∗ wp frame (wpE (defs₀ (F := F)) 𝒱₀ (c : Thread nD τ) none) Set.univ (.op (.semWait s a) k) Q) := by
  subst hs ha
  iintro ⟨#HR, HC, Hcr⟩ Hk
  ihave HC' := (Ctl_part c rfl hj) $$ HC
  icases HC' with ⟨%W, Ho, Ht, Hback⟩
  unfold tok crSt
  icases Ht with ⟨Hc, Hw⟩
  icases Hcr with ⟨%T, %hT, Hat, #Hf⟩
  iapply (Rounds.wp_wait 𝒱₀ ER (Rd X Wt) (c : Thread nD τ) none (κ := K (c, .cr d)) (sm := csem (.cr d)) (k' := 1)
      (wpE_semWait_eq 𝒱₀ (c : Thread nD τ) none Set.univ) (Set.mem_univ _) (cr := Finsupp.single j.val 1) (O := pays c l) (W := W)
      {(csem (.cr d), j.val)} (R := 0) (m := j.val) (T := T) (Util.total_single _ _) (image_single_subset (csem (.cr d)) j.val 1)) $$ [Hc Ho Hat]
  · isplitr; · iapply (Rec_inv X Wt K Ks (c, .cr d)); iexact HR
    isplitl [Hc]; · iexact Hc
    isplitl [Ho]; · iexact Ho
    isplitr
    · iapply (mayWait_of c (csem (.cr d)) j.val j.isLt l (by rw [show lv ((c : Thread nD τ), csem (.cr d)) j.val = 10 * (j.val + 3) + 5 from lv_k c (.cr d) j.val]; exact hl))
      iapply (Rec_lev X Wt K Ks); iexact HR
    iexact Hat
  iintro %S ⟨%hS, Ho, Hat, Hp⟩
  obtain ⟨hTS, hSd, hcard⟩ := hS
  have hc : j.val + 1 ≤ S.card := by
    rw [show ((c : Thread nD τ), csem (.cr d)) = kcell (c, .cr d) from rfl, expect_k, duties_k] at hcard
    have e : dutK (.cr d) = Finset.univ := rfl
    rw [e, Finset.card_sdiff_of_subset (Finset.subset_univ S), Finset.card_univ, Fintype.card_fin] at hcard
    have : amtK (.cr d) = 1 := rfl
    have := Finset.card_le_univ S
    rw [Fintype.card_fin] at this
    omega
  ihave #Hp' := (show bigSep (S \ T) (fun i => (Rd X Wt).payload ((c : Thread nD τ), csem (.cr d)) 0 i) ⊢ (bigSep (S \ T) fun i => freed d (i.val + 1) (nxt d c) : sProp 𝕄)
    from Entails.of_eq (bigSep_congr fun i _ => payload_k X Wt c (.cr d) 0 i)) $$ Hp
  ihave #Hall := (sets_join T S hTS fun i => freed d (i.val + 1) (nxt d c)) $$ []
  · isplitr <;> iassumption
  imod (taken X Wt K Ks c d j S hc) $$ [Hw] with Hland
  · isplitr; · iexact HR
    isplitr; · iexact Hall
    iexact Hw
  iapply Hk
  isplitl [Ho Hback]; · iapply Hback; iexact Ho
  isplitl [Hat]
  · iexists S
    isplitr; · ipureintro; exact hc
    isplitl [Hat]; · iexact Hat
    iexact Hall
  iexact Hland

/-- The wait for the last credit. -/
theorem step_wcr2 {α : Type} {Q : α → sProp 𝕄} {k : PUnit → Prog (TpuEff nD τ sig (Elt F) Λ₀ .tc) α}
    (c : Dev nD) (d : Bool) (l : List Ev) (hl : above 55 l = true) {s : Sem sig} (hs : s = crS d) {a : ℤ} (ha : a = ((1 : ℕ) : ℤ)) :
    iprop(Rec X Wt K Ks ∗ Ctl c (.wcr d 2 :: l) ∗ crSt c d 2)
      ⊢ iprop(((Ctl c l ∗ landing (slotT d 2) (nxt d c)) -∗ wp frame (wpE (defs₀ (F := F)) 𝒱₀ (c : Thread nD τ) none) Set.univ (k ⟨⟩) Q)
          -∗ wp frame (wpE (defs₀ (F := F)) 𝒱₀ (c : Thread nD τ) none) Set.univ (.op (.semWait s a) k) Q) := by
  subst hs ha
  iintro ⟨#HR, HC, Hcr⟩ Hk
  ihave HC' := (Ctl_wait c (ck := .cr d) rfl rfl) $$ HC
  icases HC' with ⟨%W, Ho, Ht, Hback⟩
  unfold tok crSt
  icases Ht with ⟨Hc, Hw⟩
  icases Hcr with ⟨%T, %hT, Hat, #Hf⟩
  iapply (Rounds.wp_wait_rest_token 𝒱₀ ER (Rd X Wt) (c : Thread nD τ) none (κ := K (c, .cr d)) (sm := csem (.cr d)) (k' := 1)
      (wpE_semWait_eq 𝒱₀ (c : Thread nD τ) none Set.univ) (Set.mem_univ _) 2 (O := pays c l) (W := W) (R := 0) (m := 2) (T := T)
      (by rw [expect_k]; rfl)) $$ [Hc Ho Hat]
  · isplitr; · iapply (Rec_inv X Wt K Ks (c, .cr d)); iexact HR
    isplitl [Hc]; · iexact Hc
    isplitl [Ho]; · iexact Ho
    isplitr
    · iapply (mayWait_of c (csem (.cr d)) 2 (by decide) l (by rw [show lv ((c : Thread nD τ), csem (.cr d)) 2 = 55 from lv_k c (.cr d) 2]; exact hl))
      iapply (Rec_lev X Wt K Ks); iexact HR
    iexact Hat
  iintro ⟨Ho, Hat, -, Hp⟩
  imod (Rounds.cell_close ER (Rd X Wt) (Set.mem_univ (K (c, .cr d))) (fun h => h) (R := 0 + 1) (duties_later X Wt (kcell (c, .cr d)))) $$ [Hat] with Hz
  · isplitr; · iapply (Rec_inv X Wt K Ks (c, .cr d)); iexact HR
    iexact Hat
  ihave #Hp' := (show bigSep ((Rd X Wt).duties ((c : Thread nD τ), csem (.cr d)) 0 \ T) (fun i => (Rd X Wt).payload ((c : Thread nD τ), csem (.cr d)) 0 i)
      ⊢ (bigSep (Finset.univ \ T) fun i => freed d (i.val + 1) (nxt d c) : sProp 𝕄)
    from Entails.of_eq (by
      rw [show ((c : Thread nD τ), csem (.cr d)) = kcell (c, .cr d) from rfl, duties_k]
      exact bigSep_congr fun i _ => payload_k X Wt c (.cr d) 0 i)) $$ Hp
  ihave #Hall := (sets_join T Finset.univ (Finset.subset_univ T) fun i => freed d (i.val + 1) (nxt d c)) $$ []
  · isplitr <;> iassumption
  imod (taken X Wt K Ks c d 2 Finset.univ (by decide)) $$ [Hw] with Hland
  · isplitr; · iexact HR
    isplitr; · iexact Hall
    iexact Hw
  iapply Hk
  isplitl [Ho Hz Hback]
  · iapply Hback; isplitl [Ho] <;> iassumption
  iexact Hland

end Rec

end Cert.RingMatmul

end
-- ==== Proof.Mem.lean ====
/-
  Loads and stores through owned memrefs, and the pieces of a buffer: rules that the walk through the kernel's body uses at
  every access.
-/
module

public import proofs.«01_k».proof.Proof.Steps

@[expose] public section

set_option maxRecDepth 16384

noncomputable section

namespace Cert.RingMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Release (slot)

variable {F : FTy → Type} [FloatOps F]

local notation "𝕄" => MT nD τ sig ℕ (Elt F) ℕ UU ℕ

/-! ## Accesses -/

/-- A load through a rectangle of an owned memref. -/
theorem ld_sub {α : Type} {Q : α → sProp 𝕄} (c : Dev nD) {cs : CoreSpace} {s : Shape} {e : EltTy} {m : Memref sig .tc cs s e}
    {r : Rect s} {q : PosShare TreeShare} {Y : s.Idx → Elt F e} {hl : m.view.LoadsAt r.toLoadRect}
    {k : (r.shape.Idx → Elt F e) → Prog (TpuEff nD τ sig (Elt F) Λ₀ .tc) α} :
    (owns (c : Thread nD τ) m q Y : sProp 𝕄)
      ⊢ iprop((owns (c : Thread nD τ) m q Y -∗ wp frame (wpE (defs₀ (F := F)) 𝒱₀ (c : Thread nD τ) none) Set.univ (k fun j => Y (r.emb j)) Q)
          -∗ wp frame (wpE (defs₀ (F := F)) 𝒱₀ (c : Thread nD τ) none) Set.univ (.op (.load m r.toLoadRect hl) k) Q) := by
  iintro H Hk
  ihave H' := (show owns (c : Thread nD τ) m q Y ⊢ (iprop(∃ f, ⌜m.view.read (Elt F) f = Y⌝ ∗ (m.view.loc (c : Thread nD τ) ↦[m.view.set]{q} f)) : sProp 𝕄) from .rfl) $$ H
  icases H' with ⟨%f, %hf, H⟩
  iapply (wp_load_rect 𝒱₀ (c : Thread nD τ) none Set.univ (m := m) (r := r) (S := m.view.set) (f := f) (m.view.set_slice_subset r)) $$ H
  iintro H
  subst hf
  iapply Hk
  iapply (owns_intro (c : Thread nD τ) m q f); iexact H

/-- A load of an owned slice. -/
theorem ld {α : Type} {Q : α → sProp 𝕄} (c : Dev nD) {cs : CoreSpace} {s : Shape} {e : EltTy} {m : Memref sig .tc cs s e}
    {r : Rect s} {hr : ∀ a, r.stride a = 1} {q : PosShare TreeShare} {Y : r.shape.Idx → Elt F e} {hl : m.view.LoadsAt r.toLoadRect}
    {k : (r.shape.Idx → Elt F e) → Prog (TpuEff nD τ sig (Elt F) Λ₀ .tc) α} :
    (owns (c : Thread nD τ) (m.slice r hr) q Y : sProp 𝕄)
      ⊢ iprop((owns (c : Thread nD τ) (m.slice r hr) q Y -∗ wp frame (wpE (defs₀ (F := F)) 𝒱₀ (c : Thread nD τ) none) Set.univ (k Y) Q)
          -∗ wp frame (wpE (defs₀ (F := F)) 𝒱₀ (c : Thread nD τ) none) Set.univ (.op (.load m r.toLoadRect hl) k) Q) := by
  iintro H Hk
  ihave H' := (show owns (c : Thread nD τ) (m.slice r hr) q Y ⊢ (iprop(∃ f, ⌜(m.slice r hr).view.read (Elt F) f = Y⌝
    ∗ ((m.slice r hr).view.loc (c : Thread nD τ) ↦[(m.slice r hr).view.set]{q} f)) : sProp 𝕄) from .rfl) $$ H
  icases H' with ⟨%f, %hf, H⟩
  iapply (wp_load_rect 𝒱₀ (c : Thread nD τ) none Set.univ (m := m) (r := r) (S := (m.slice r hr).view.set) (f := f) (Finset.Subset.refl _)) $$ H
  iintro H
  subst hf
  iapply Hk
  iapply (owns_intro (c : Thread nD τ) (m.slice r hr) q f); iexact H

/-- A load of an owned slice that is held without its leading axis. -/
theorem ld_sq {α : Type} {Q : α → sProp 𝕄} (c : Dev nD) {cs : CoreSpace} {s s' : Shape} {e : EltTy} {m : Memref sig .tc cs s e}
    {r : Rect s} {hr : ∀ a, r.stride a = 1} {hs : r.shape.Squeezes s'} {q : PosShare TreeShare} {Y : s'.Idx → Elt F e} {hl : m.view.LoadsAt r.toLoadRect}
    {k : (r.shape.Idx → Elt F e) → Prog (TpuEff nD τ sig (Elt F) Λ₀ .tc) α} :
    (owns (c : Thread nD τ) ((m.slice r hr).squeeze s' hs) q Y : sProp 𝕄)
      ⊢ iprop((owns (c : Thread nD τ) ((m.slice r hr).squeeze s' hs) q Y
            -∗ wp frame (wpE (defs₀ (F := F)) 𝒱₀ (c : Thread nD τ) none) Set.univ (k (shapeCast r.shape Y hs.numel_eq.symm)) Q)
          -∗ wp frame (wpE (defs₀ (F := F)) 𝒱₀ (c : Thread nD τ) none) Set.univ (.op (.load m r.toLoadRect hl) k) Q) := by
  iintro H Hk
  ihave H' := (show owns (c : Thread nD τ) ((m.slice r hr).squeeze s' hs) q Y ⊢ (iprop(∃ f, ⌜((m.slice r hr).squeeze s' hs).view.read (Elt F) f = Y⌝
    ∗ (((m.slice r hr).squeeze s' hs).view.loc (c : Thread nD τ) ↦[((m.slice r hr).squeeze s' hs).view.set]{q} f)) : sProp 𝕄) from .rfl) $$ H
  icases H' with ⟨%f, %hf, H⟩
  iapply (wp_load_rect 𝒱₀ (c : Thread nD τ) none Set.univ (m := m) (r := r) (S := ((m.slice r hr).squeeze s' hs).view.set) (f := f)
    (by show (m.view.slice r).set ⊆ ((m.view.slice r).reshape s' hs.numel_eq).set; rw [View.set_reshape])) $$ H
  iintro H
  have e1 : (m.access r).read (Elt F) f = shapeCast r.shape Y hs.numel_eq.symm := by
    subst hf
    funext j
    show (m.access r).read (Elt F) f j = (m.access r).read (Elt F) f (Shape.reshapeEquiv hs.numel_eq (Shape.reshapeEquiv hs.numel_eq.symm j))
    rw [Shape.reshapeEquiv_reshapeEquiv, Shape.reshapeEquiv_self]
  rw [e1]
  iapply Hk
  rw [← hf]
  iapply (owns_intro (c : Thread nD τ) ((m.slice r hr).squeeze s' hs) q f); iexact H

/-- A store into an owned slice. -/
theorem st {α : Type} {Q : α → sProp 𝕄} (c : Dev nD) {cs : CoreSpace} {s : Shape} {e : EltTy} {m : Memref sig .tc cs s e}
    {r : Rect s} {hr : ∀ a, r.stride a = 1} {Y w : r.shape.Idx → Elt F e} {hx : (m.access r).Stores Finset.univ}
    {hm : (Finset.univ : Finset r.shape.Idx) = Finset.univ ∨ ∀ a, r.stride a = 1}
    {k : PUnit → Prog (TpuEff nD τ sig (Elt F) Λ₀ .tc) α} :
    (owns (c : Thread nD τ) (m.slice r hr) fullShare Y : sProp 𝕄)
      ⊢ iprop((owns (c : Thread nD τ) (m.slice r hr) fullShare w -∗ wp frame (wpE (defs₀ (F := F)) 𝒱₀ (c : Thread nD τ) none) Set.univ (k ⟨⟩) Q)
          -∗ wp frame (wpE (defs₀ (F := F)) 𝒱₀ (c : Thread nD τ) none) Set.univ (.op (.store m r w Finset.univ hx hm) k) Q) := by
  iintro H Hk
  ihave H' := (show owns (c : Thread nD τ) (m.slice r hr) fullShare Y ⊢ (iprop(∃ f, ⌜(m.slice r hr).view.read (Elt F) f = Y⌝
    ∗ ((m.slice r hr).view.loc (c : Thread nD τ) ↦[(m.slice r hr).view.set]{fullShare} f)) : sProp 𝕄) from .rfl) $$ H
  icases H' with ⟨%f, %hf, H⟩
  iapply (wp_store 𝒱₀ (c : Thread nD τ) none Set.univ (m := m) (r := r) (Mk := Finset.univ) (S := (m.slice r hr).view.set) (f := f) (Finset.Subset.refl _)) $$ H
  iintro H
  iapply Hk
  ihave H' := (owns_intro (c : Thread nD τ) (m.slice r hr) fullShare ((m.access r).write (Elt F) f w Finset.univ)) $$ H
  rw [show (m.slice r hr).view.read (Elt F) ((m.access r).write (Elt F) f w Finset.univ) = w from View.read_write_univ _ _]
  iexact H'

/-! ## Pieces of a buffer -/

theorem owns_slot (c : Dev nD) {sp : Space} {s : Shape} {e : EltTy} (m : Memref sig .tc sp s e) (Y : s.Idx → Elt F e) :
    (owns (c : Thread nD τ) m fullShare Y : sProp 𝕄) ⊢ slot (m.view.loc (c : Thread nD τ)) m.view.set := by
  unfold owns slot
  iintro ⟨%f, -, H⟩; iexists f; iexact H

theorem slot_owns (c : Dev nD) {sp : Space} {s : Shape} {e : EltTy} (m : Memref sig .tc sp s e) :
    slot (m.view.loc (c : Thread nD τ)) m.view.set ⊢ (iprop(∃ Y, owns (c : Thread nD τ) m fullShare Y) : sProp 𝕄) := by
  unfold slot
  iintro ⟨%f, H⟩; iexists (m.view.read (Elt F) f)
  iapply (owns_intro (c : Thread nD τ) m fullShare f); iexact H

theorem slot_join {ℓ : Loc nD τ sig} {I J : Finset (Idx ℓ)} (h : Disjoint I J) :
    iprop(slot ℓ I ∗ slot ℓ J) ⊢ (slot ℓ (I ∪ J) : sProp 𝕄) := by
  classical
  unfold slot
  iintro ⟨⟨%f, H1⟩, %g, H2⟩
  iexists (J.piecewise g f)
  iapply (pointsTo_join h); isplitl [H1] <;> iassumption

theorem slot_split {ℓ : Loc nD τ sig} {I J : Finset (Idx ℓ)} (h : Disjoint I J) :
    (slot ℓ (I ∪ J) : sProp 𝕄) ⊢ iprop(slot ℓ I ∗ slot ℓ J) := by
  unfold slot
  iintro ⟨%f, H⟩
  ihave H' := (pointsTo_union h).1 $$ H
  icases H' with ⟨H1, H2⟩
  isplitl [H1]
  · iexists f; iexact H1
  · iexists f; iexact H2

end Cert.RingMatmul

end
-- ==== Proof.Contents.lean ====
/-
  What the kernel computes on one device: the values of the result's four column chunks after each step, from the tiles of
  `x` and the weight halves that the device holds then.
-/
module

public import proofs.«01_k».proof.Proof.Transfers

@[expose] public section

set_option maxRecDepth 16384

noncomputable section

namespace Cert.RingMatmul

open Cert.KernelIdeal Cert.KernelIdeal.Gen
open Idealize.ShloMosaic
open Idealize.ShloMosaic.TcCoe

variable {F : FTy → Type} [FloatOps F]

/-! ## The pieces -/

/-- A chunk of columns: a direction's half has two. -/
abbrev col : Bool → Fin 2 → ℕ
  | true, 0 => 0
  | true, 1 => 2048
  | false, 0 => 4096
  | false, 1 => 6144
theorem inb_col (d : Bool) (o : Fin 2) : ∀ a, (![0, col d o] : Fin 2 → ℕ) a + S512x2048.size a ≤ S512x8192.size a := by
  revert d o; decide
abbrev rCol (d : Bool) (o : Fin 2) : Rect S512x8192 := Rect.unit (s := S512x8192) ![0, col d o] S512x2048.size (inb_col d o)
/-- The chunk of the result. -/
abbrev ocol (d : Bool) (o : Fin 2) : Memref sig .tc .vmem S512x2048 .f32 := a4.slice (rCol d o) (fun _ => rfl)

/-- The `x` hops: four up the ring, three down. -/
abbrev XH : Type := Fin 4 ⊕ Fin 3
abbrev trX (q : XH) : Tr := .inr q

abbrev hd4 (m : Memref sig .tc .vmem S4x512x512 .fp8e5m2) : Memref sig .tc .vmem S1x512x512 .fp8e5m2 :=
  m.slice (Rect.unit (s := S4x512x512) ![0, 0, 0] S1x512x512.size inb_S4x512x512_S1x512x512_0_0_0) (fun _ => rfl)
abbrev hd3 (m : Memref sig .tc .vmem S3x512x512 .fp8e5m2) : Memref sig .tc .vmem S1x512x512 .fp8e5m2 :=
  m.slice (Rect.unit (s := S3x512x512) ![0, 0, 0] S1x512x512.size inb_S3x512x512_S1x512x512_0_0_0) (fun _ => rfl)
abbrev hd2 (m : Memref sig .tc .vmem S2x512x512 .fp8e5m2) : Memref sig .tc .vmem S1x512x512 .fp8e5m2 :=
  m.slice (Rect.unit (s := S2x512x512) ![0, 0, 0] S1x512x512.size inb_S2x512x512_S1x512x512_0_0_0) (fun _ => rfl)

variable (X : Dev nD → XT F) (Wt : Dev nD → WT F) (Sx Sw : Dev nD → S1.Idx → F .f32)

/-- The tile for `c` itself that an `x` hop leaves there. -/
def hdC (q : XH) (c : Dev nD) : S1x512x512.Idx → Elt F .fp8e5m2 :=
  match q with
  | .inl h => stk (n := 1) (X (rot false (h.val + 1) c)) true c
  | .inr h => stk (n := 1) (X (rot true (h.val + 1) c)) false c

/-- The `x` hop whose tile is multiplied with the weights of hop `h` of direction `d`. -/
def xtr : Bool → ℕ → XH
  | true, 0 => .inl 0
  | true, 1 => .inl 1
  | true, 2 => .inl 2
  | true, 3 => .inl 3
  | true, 4 => .inr 2
  | true, 5 => .inr 1
  | true, _ => .inr 0
  | false, 0 => .inr 0
  | false, 1 => .inr 1
  | false, 2 => .inr 2
  | false, 3 => .inl 3
  | false, 4 => .inl 2
  | false, 5 => .inl 1
  | false, _ => .inl 0

/-! ## The values -/

/-- A chunk of the columns of a weight half. -/
def sl (o : Fin 2) (w : FVec F S512x4096 .fp8e5m2) : FVec F S512x2048 .fp8e5m2 :=
  match o with
  | 0 => extractStridedSlice S512x2048 ![0, 0] w slices_S512x4096_o0_0_S512x2048
  | 1 => extractStridedSlice S512x2048 ![0, 2048] w slices_S512x4096_o0_2048_S512x2048

/-- A product of a tile with a chunk of weights. -/
def prd (x : FVec F S512x512 .fp8e5m2) (w : FVec F S512x2048 .fp8e5m2) : FVec F S512x2048 .f32 :=
  matmul dot_S512x512_S512x2048_S512x2048_1_0_0_1_n_n none x w (constant S512x2048 .f32 0x00000000#32)

/-- One more product added to a chunk. -/
def accS (o : Fin 2) (x : Vec F S1x512x512 .fp8e5m2) (w : Vec F S1x512x4096 .fp8e5m2) (p : Vec F S512x2048 .f32) : FVec F S512x2048 .f32 :=
  addf (shapeCast S512x2048 p shapeCasts_S512x2048_S512x2048)
    (prd (shapeCast S512x512 x shapeCasts_S1x512x512_S512x512) (sl o (shapeCast S512x4096 w shapeCasts_S1x512x4096_S512x4096)))

/-- The weights of hop `h`, as they are loaded. -/
def w3 (d : Bool) (h : ℕ) (c : Dev nD) : Vec F S1x512x4096 .fp8e5m2 :=
  shapeCast S1x512x4096 (wP (Wt (rot (!d) (h + 1) c)) d) (squeezes_S1x512x4096_S512x4096).numel_eq.symm

/-- A chunk after the device's own product and `h` hops. -/
def acc (c : Dev nD) (d : Bool) (o : Fin 2) : ℕ → FVec F S512x2048 .f32
  | 0 => prd (shapeCast S512x512 (xP (X c) c) shapeCasts_S512x512_S512x512)
      (shapeCast S512x2048 (fun j => Wt c ((rCol d o).emb j)) shapeCasts_S512x2048_S512x2048)
  | h + 1 => accS o (hdC X (xtr d h) c) (w3 Wt d h c) (acc c d o h)

theorem acc_succ (c : Dev nD) (d : Bool) (o : Fin 2) (h : ℕ) : acc X Wt c d o (h + 1) = accS o (hdC X (xtr d h) c) (w3 Wt d h c) (acc X Wt c d o h) := rfl

/-- The scale the device applies. -/
def scl (c : Dev nD) : F .f32 :=
  Scalar.mulf (Sx c ((Rect.unit (s := S1) ![0] S1.size inb_S1_S1_0).point numel1_S1)) (Sw c ((Rect.unit (s := S1) ![0] S1.size inb_S1_S1_0).point numel1_S1))

/-- The chunk's last form: scaled, then through the gate. -/
def epi (v : F .f32) (a : FVec F S512x2048 .f32) : FVec F S512x2048 .f32 := k0_pay70 (mulf a (broadcast S512x2048 v))

def fin (c : Dev nD) (d : Bool) (o : Fin 2) : FVec F S512x2048 .f32 := epi (scl Sx Sw c) (acc X Wt c d o 7)

/-- The payloads of the last step. -/
theorem pay68_eq (v : F .f32) (x : Vec F S1x512x512 .fp8e5m2) (w : Vec F S1x512x4096 .fp8e5m2) (p : Vec F S512x2048 .f32) :
    k0_pay68 v x w p = epi v (accS 0 x w p) := rfl
theorem pay69_eq (v : F .f32) (x : Vec F S1x512x512 .fp8e5m2) (w : Vec F S1x512x4096 .fp8e5m2) (p : Vec F S512x2048 .f32) :
    k0_pay70 (k0_pay69 v x w p) = epi v (accS 1 x w p) := rfl
theorem pay73_eq (v : F .f32) (x : Vec F S1x512x512 .fp8e5m2) (w : Vec F S1x512x4096 .fp8e5m2) (p : Vec F S512x2048 .f32) :
    k0_pay73 v x w p = epi v (accS 0 x w p) := rfl
theorem pay75_eq (v : F .f32) (x : Vec F S1x512x512 .fp8e5m2) (w : Vec F S1x512x4096 .fp8e5m2) (p : Vec F S512x2048 .f32) :
    k0_pay75 v (k0_pay74 x w) p = epi v (accS 1 x w p) := rfl

end Cert.RingMatmul

end
-- ==== Proof.Pieces.lean ====
/-
  The buffers in pieces: the head and the tail of a stack, its rows, the four slots of a weight buffer, the columns of the
  result; and what a transfer's target becomes when it is the next transfer's source.
-/
module

public import proofs.«01_k».proof.Proof.Mem
public import proofs.«01_k».proof.Proof.Contents
public import Idealize.ShloMosaic.Lib.Pipeline.Value

@[expose] public section

set_option maxRecDepth 16384

noncomputable section

namespace Cert.RingMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Release (slot)

variable {F : FTy → Type} [FloatOps F]

local notation "𝕄" => MT nD τ sig ℕ (Elt F) ℕ UU ℕ

/-! ## A rectangle that is the whole -/

theorem emb_full {s : Shape} {off : Fin s.rank → ℕ} (h : ∀ a, off a = 0) (inb : ∀ a, off a + s.size a ≤ s.size a) (j : s.Idx) :
    (Rect.unit (s := s) off s.size inb).emb j = j := by
  funext a
  apply Fin.ext
  show off a + 1 * (j a).val = (j a).val
  rw [h a]; omega

theorem set_full {s : Shape} {off : Fin s.rank → ℕ} (h : ∀ a, off a = 0) (inb : ∀ a, off a + s.size a ≤ s.size a) :
    (Rect.unit (s := s) off s.size inb).set = Finset.univ := by
  ext i
  simp only [Finset.mem_univ, iff_true]
  rw [Rect.mem_set_unit]
  intro a
  rw [h a]; have := (i a).isLt; omega

/-- A memref and its slice at everything are owned alike. -/
theorem owns_full {s : Shape} {e : EltTy} (c : Dev nD) (m : Memref sig .tc .vmem s e) {off : Fin s.rank → ℕ} (h : ∀ a, off a = 0)
    (inb : ∀ a, off a + s.size a ≤ s.size a) (q : PosShare TreeShare) (Y : s.Idx → Elt F e) :
    (owns (c : Thread nD τ) (m.slice (Rect.unit (s := s) off s.size inb) (fun _ => rfl)) q Y : sProp 𝕄) = owns (c : Thread nD τ) m q Y := by
  have hset : (m.view.slice (Rect.unit (s := s) off s.size inb)).set = m.view.set := by
    rw [View.set_slice, set_full h inb, View.set]
  have hread (f : m.view.ty.Contents (Elt F)) : (m.view.slice (Rect.unit (s := s) off s.size inb)).read (Elt F) f = m.view.read (Elt F) f := by
    funext j
    show m.view.read (Elt F) f ((Rect.unit (s := s) off s.size inb).emb j) = _
    rw [emb_full h inb j]
  have e1 : (owns (c : Thread nD τ) (m.slice (Rect.unit (s := s) off s.size inb) (fun _ => rfl)) q Y : sProp 𝕄)
      = iprop(∃ f, ⌜(m.view.slice (Rect.unit (s := s) off s.size inb)).read (Elt F) f = Y⌝
          ∗ (m.view.loc (c : Thread nD τ) ↦[(m.view.slice (Rect.unit (s := s) off s.size inb)).set]{q} f)) := rfl
  rw [e1]
  simp only [hread, hset]
  rfl

/-! ## Stacks -/

section Stack
variable {n : ℕ}

theorem hdtl_disjoint (h1 : ∀ a, (![0, 0, 0] : Fin 3 → ℕ) a + (![1, 512, 512] : Fin 3 → ℕ) a ≤ (⟨3, ![n + 1, 512, 512]⟩ : Shape).size a)
    (h2 : ∀ a, (![1, 0, 0] : Fin 3 → ℕ) a + (![n, 512, 512] : Fin 3 → ℕ) a ≤ (⟨3, ![n + 1, 512, 512]⟩ : Shape).size a) :
    Disjoint (Rect.unit (s := ⟨3, ![n + 1, 512, 512]⟩) ![0, 0, 0] ![1, 512, 512] h1).set
      (Rect.unit (s := ⟨3, ![n + 1, 512, 512]⟩) ![1, 0, 0] ![n, 512, 512] h2).set :=
  Rect.unit_disjoint (s := ⟨3, ![n + 1, 512, 512]⟩) (0 : Fin 3) (Or.inl (by show 0 + 1 ≤ 1; omega))

theorem hdtl_cover (h1 : ∀ a, (![0, 0, 0] : Fin 3 → ℕ) a + (![1, 512, 512] : Fin 3 → ℕ) a ≤ (⟨3, ![n + 1, 512, 512]⟩ : Shape).size a)
    (h2 : ∀ a, (![1, 0, 0] : Fin 3 → ℕ) a + (![n, 512, 512] : Fin 3 → ℕ) a ≤ (⟨3, ![n + 1, 512, 512]⟩ : Shape).size a) :
    (Rect.unit (s := ⟨3, ![n + 1, 512, 512]⟩) ![0, 0, 0] ![1, 512, 512] h1).set
      ∪ (Rect.unit (s := ⟨3, ![n + 1, 512, 512]⟩) ![1, 0, 0] ![n, 512, 512] h2).set = Finset.univ := by
  ext i
  simp only [Finset.mem_union, Finset.mem_univ, iff_true]
  have i0 : (i 0).val < n + 1 := (i 0).isLt
  have i1 : (i 1).val < 512 := (i 1).isLt
  have i2 : (i 2).val < 512 := (i 2).isLt
  by_cases h : (i 0).val = 0
  · left
    rw [Rect.mem_set_unit]
    intro a
    fin_cases a
    · exact ⟨Nat.zero_le _, by show (i 0).val < 0 + 1; omega⟩
    · exact ⟨Nat.zero_le _, by show (i 1).val < 0 + 512; omega⟩
    · exact ⟨Nat.zero_le _, by show (i 2).val < 0 + 512; omega⟩
  · right
    rw [Rect.mem_set_unit]
    intro a
    fin_cases a
    · exact ⟨by show 1 ≤ (i 0).val; omega, by show (i 0).val < 1 + n; omega⟩
    · exact ⟨Nat.zero_le _, by show (i 1).val < 0 + 512; omega⟩
    · exact ⟨Nat.zero_le _, by show (i 2).val < 0 + 512; omega⟩

/-- A stack taken apart: the tile of its first device, the stack of the others. -/
theorem stk_hd (x : XT F) (d : Bool) (c : Dev nD) (h1 : ∀ a, (![0, 0, 0] : Fin 3 → ℕ) a + (![1, 512, 512] : Fin 3 → ℕ) a ≤ (⟨3, ![n + 1, 512, 512]⟩ : Shape).size a) :
    (fun j => stk (n := n + 1) x d c ((Rect.unit (s := ⟨3, ![n + 1, 512, 512]⟩) ![0, 0, 0] ![1, 512, 512] h1).emb j)) = stk (n := 1) x d c := by
  funext j
  unfold stk
  have e0 : (((Rect.unit (s := ⟨3, ![n + 1, 512, 512]⟩) ![0, 0, 0] ![1, 512, 512] h1).emb j) 0).val = (j 0).val := by
    show 0 + 1 * (j 0).val = (j 0).val; omega
  rw [e0]
  congr 1
  funext a
  apply Fin.ext
  fin_cases a
  · show 0 + 1 * (j 1).val = (j 1).val; omega
  · show 0 + 1 * (j 2).val = (j 2).val; omega
theorem stk_tl (x : XT F) (d : Bool) (c : Dev nD) (h2 : ∀ a, (![1, 0, 0] : Fin 3 → ℕ) a + (![n, 512, 512] : Fin 3 → ℕ) a ≤ (⟨3, ![n + 1, 512, 512]⟩ : Shape).size a) :
    (fun j => stk (n := n + 1) x d c ((Rect.unit (s := ⟨3, ![n + 1, 512, 512]⟩) ![1, 0, 0] ![n, 512, 512] h2).emb j)) = stk (n := n) x d (nxt d c) := by
  funext j
  unfold stk
  have e0 : (((Rect.unit (s := ⟨3, ![n + 1, 512, 512]⟩) ![1, 0, 0] ![n, 512, 512] h2).emb j) 0).val = (j 0).val + 1 := by
    show 1 + 1 * (j 0).val = (j 0).val + 1; omega
  rw [e0, rot_nxt]
  congr 1
  funext a
  apply Fin.ext
  fin_cases a
  · show 0 + 1 * (j 1).val = (j 1).val; omega
  · show 0 + 1 * (j 2).val = (j 2).val; omega

theorem owns_hdtl (c : Dev nD) (m : Memref sig .tc .vmem ⟨3, ![n + 1, 512, 512]⟩ .fp8e5m2) (q : PosShare TreeShare) (x : XT F) (d : Bool) (c' : Dev nD)
    (h0 : ∀ a, (![0, 0, 0] : Fin 3 → ℕ) a + (![n + 1, 512, 512] : Fin 3 → ℕ) a ≤ (⟨3, ![n + 1, 512, 512]⟩ : Shape).size a)
    (h1 : ∀ a, (![0, 0, 0] : Fin 3 → ℕ) a + (![1, 512, 512] : Fin 3 → ℕ) a ≤ (⟨3, ![n + 1, 512, 512]⟩ : Shape).size a)
    (h2 : ∀ a, (![1, 0, 0] : Fin 3 → ℕ) a + (![n, 512, 512] : Fin 3 → ℕ) a ≤ (⟨3, ![n + 1, 512, 512]⟩ : Shape).size a) :
    (owns (c : Thread nD τ) (m.slice (Rect.unit (s := ⟨3, ![n + 1, 512, 512]⟩) ![0, 0, 0] ![n + 1, 512, 512] h0) (fun _ => rfl)) q (stk (n := n + 1) x d c') : sProp 𝕄)
      ⊢ iprop(owns (c : Thread nD τ) (m.slice (Rect.unit (s := ⟨3, ![n + 1, 512, 512]⟩) ![0, 0, 0] ![1, 512, 512] h1) (fun _ => rfl)) q (stk (n := 1) x d c')
          ∗ owns (c : Thread nD τ) (m.slice (Rect.unit (s := ⟨3, ![n + 1, 512, 512]⟩) ![1, 0, 0] ![n, 512, 512] h2) (fun _ => rfl)) q (stk (n := n) x d (nxt d c'))) := by
  rw [show (owns (c : Thread nD τ) (m.slice (Rect.unit (s := ⟨3, ![n + 1, 512, 512]⟩) ![0, 0, 0] ![n + 1, 512, 512] h0) (fun _ => rfl)) q (stk (n := n + 1) x d c') : sProp 𝕄)
      = owns (c : Thread nD τ) m q (stk (n := n + 1) x d c') from owns_full c m (by intro a; fin_cases a <;> rfl) h0 q _]
  iintro H
  ihave H' := (show owns (c : Thread nD τ) m q (stk (n := n + 1) x d c') ⊢ (iprop(∃ g, ⌜m.view.read (Elt F) g = stk (n := n + 1) x d c'⌝
      ∗ m.view.loc (c : Thread nD τ) ↦[m.view.set]{q} g) : sProp 𝕄) from .rfl) $$ H
  icases H' with ⟨%g, %hg, H⟩
  have hdis := hdtl_disjoint h1 h2
  have hset : m.view.set = (m.view.slice (Rect.unit (s := ⟨3, ![n + 1, 512, 512]⟩) ![0, 0, 0] ![1, 512, 512] h1)).set
      ∪ (m.view.slice (Rect.unit (s := ⟨3, ![n + 1, 512, 512]⟩) ![1, 0, 0] ![n, 512, 512] h2)).set := by
    rw [View.set_slice, View.set_slice, ← Finset.map_union, hdtl_cover h1 h2, View.set]
  rw [hset]
  ihave H' := (pointsTo_union (by rw [View.set_slice, View.set_slice]; exact (Finset.disjoint_map _).mpr hdis)).1 $$ H
  icases H' with ⟨Ha, Hb⟩
  rw [← stk_hd x d c' h1, ← stk_tl x d c' h2, ← hg]
  isplitl [Ha]
  · iapply (owns_intro (c : Thread nD τ) (m.slice (Rect.unit (s := ⟨3, ![n + 1, 512, 512]⟩) ![0, 0, 0] ![1, 512, 512] h1) (fun _ => rfl)) q g); iexact Ha
  · iapply (owns_intro (c : Thread nD τ) (m.slice (Rect.unit (s := ⟨3, ![n + 1, 512, 512]⟩) ![1, 0, 0] ![n, 512, 512] h2) (fun _ => rfl)) q g); iexact Hb

/-- Both put together again, whatever they hold. -/
theorem slot_hdtl (c : Dev nD) (m : Memref sig .tc .vmem ⟨3, ![n + 1, 512, 512]⟩ .fp8e5m2)
    (h1 : ∀ a, (![0, 0, 0] : Fin 3 → ℕ) a + (![1, 512, 512] : Fin 3 → ℕ) a ≤ (⟨3, ![n + 1, 512, 512]⟩ : Shape).size a)
    (h2 : ∀ a, (![1, 0, 0] : Fin 3 → ℕ) a + (![n, 512, 512] : Fin 3 → ℕ) a ≤ (⟨3, ![n + 1, 512, 512]⟩ : Shape).size a)
    (Y : S1x512x512.Idx → Elt F .fp8e5m2) (Z : (⟨3, ![n, 512, 512]⟩ : Shape).Idx → Elt F .fp8e5m2) :
    iprop(owns (c : Thread nD τ) (m.slice (Rect.unit (s := ⟨3, ![n + 1, 512, 512]⟩) ![0, 0, 0] ![1, 512, 512] h1) (fun _ => rfl)) fullShare Y
        ∗ owns (c : Thread nD τ) (m.slice (Rect.unit (s := ⟨3, ![n + 1, 512, 512]⟩) ![1, 0, 0] ![n, 512, 512] h2) (fun _ => rfl)) fullShare Z)
      ⊢ (slot (m.view.loc (c : Thread nD τ)) m.view.set : sProp 𝕄) := by
  have hdis := hdtl_disjoint h1 h2
  have hset : m.view.set = (m.view.slice (Rect.unit (s := ⟨3, ![n + 1, 512, 512]⟩) ![0, 0, 0] ![1, 512, 512] h1)).set
      ∪ (m.view.slice (Rect.unit (s := ⟨3, ![n + 1, 512, 512]⟩) ![1, 0, 0] ![n, 512, 512] h2)).set := by
    rw [View.set_slice, View.set_slice, ← Finset.map_union, hdtl_cover h1 h2, View.set]
  rw [hset]
  iintro ⟨Ha, Hb⟩
  ihave Ha' := (owns_slot c (m.slice (Rect.unit (s := ⟨3, ![n + 1, 512, 512]⟩) ![0, 0, 0] ![1, 512, 512] h1) (fun _ => rfl)) Y) $$ Ha
  ihave Hb' := (owns_slot c (m.slice (Rect.unit (s := ⟨3, ![n + 1, 512, 512]⟩) ![1, 0, 0] ![n, 512, 512] h2) (fun _ => rfl)) Z) $$ Hb
  iapply (slot_join (by rw [View.set_slice, View.set_slice]; exact (Finset.disjoint_map _).mpr hdis))
  isplitl [Ha'] <;> iassumption

end Stack

/-! ## Rows of a stack -/

section Rows
variable {n : ℕ}

theorem inb_row (i : Fin n) : ∀ a, (![i.val, 0, 0] : Fin 3 → ℕ) a + (![1, 512, 512] : Fin 3 → ℕ) a ≤ (⟨3, ![n, 512, 512]⟩ : Shape).size a := by
  have := i.isLt
  intro a
  fin_cases a
  · show i.val + 1 ≤ n; omega
  · show 0 + 512 ≤ 512; omega
  · show 0 + 512 ≤ 512; omega
/-- The `i`-th tile of a stack. -/
abbrev rRow (i : Fin n) : Rect ⟨3, ![n, 512, 512]⟩ := Rect.unit (s := ⟨3, ![n, 512, 512]⟩) ![i.val, 0, 0] ![1, 512, 512] (inb_row i)
abbrev rowM (m : Memref sig .tc .vmem ⟨3, ![n, 512, 512]⟩ .fp8e5m2) (i : Fin n) : Memref sig .tc .vmem ⟨3, ![1, 512, 512]⟩ .fp8e5m2 :=
  m.slice (rRow i) (fun _ => rfl)

theorem rows_disjoint (i j : Fin n) (h : i ≠ j) : Disjoint (rRow i).set (rRow j).set := by
  have : i.val ≠ j.val := fun e => h (Fin.ext e)
  refine Rect.unit_disjoint (s := ⟨3, ![n, 512, 512]⟩) (0 : Fin 3) ?_
  rcases Nat.lt_or_gt_of_ne this with h | h
  · exact Or.inl (by show i.val + 1 ≤ j.val; omega)
  · exact Or.inr (by show j.val + 1 ≤ i.val; omega)

theorem rows_cover : (Finset.univ : Finset (Fin n)).biUnion (fun i => (rRow i).set) = Finset.univ := by
  ext i
  simp only [Finset.mem_biUnion, Finset.mem_univ, true_and, iff_true]
  have i1 : (i 1).val < 512 := (i 1).isLt
  have i2 : (i 2).val < 512 := (i 2).isLt
  refine ⟨i 0, ?_⟩
  rw [Rect.mem_set_unit]
  intro a
  fin_cases a
  · exact ⟨Nat.le_refl _, by show (i 0).val < (i 0).val + 1; omega⟩
  · exact ⟨Nat.zero_le _, by show (i 1).val < 0 + 512; omega⟩
  · exact ⟨Nat.zero_le _, by show (i 2).val < 0 + 512; omega⟩

theorem rows_split (c : Dev nD) (m : Memref sig .tc .vmem ⟨3, ![n, 512, 512]⟩ .fp8e5m2) (Y : (⟨3, ![n, 512, 512]⟩ : Shape).Idx → Elt F .fp8e5m2) :
    (owns (c : Thread nD τ) m fullShare Y : sProp 𝕄)
      ⊢ bigSep Finset.univ fun i : Fin n => owns (c : Thread nD τ) (rowM m i) fullShare (fun j => Y ((rRow i).emb j)) :=
  owns_rects (c : Thread nD τ) m fullShare rRow (fun _ _ => rfl) rows_disjoint rows_cover Y

/-- The tile that is stored in a row of the device's own stack: the block of rows of `x` for the device it goes to. -/
theorem row_pay (x : XT F) (d : Bool) (c j : Dev nD) (i : Fin n) (hj : rot d i.val c = j) {off : Fin 2 → ℕ} (hoff : off = ![512 * j.val, 0])
    (inb : ∀ a, off a + S512x512.size a ≤ S4096x512.size a) :
    shapeCast S1x512x512 (shapeCast S512x512 (fun t => x ((Rect.unit (s := S4096x512) off S512x512.size inb).emb t)) shapeCasts_S512x512_S512x512) shapeCasts_S512x512_S1x512x512
      = fun t => stk (n := n) x d c ((rRow i).emb t) := by
  subst hoff hj
  refine (congrArg (fun v => shapeCast S1x512x512 v shapeCasts_S512x512_S1x512x512) (shapeCast_self (s := S512x512) (fun t => x ((Rect.unit (s := S4096x512) ![512 * (rot d i.val c).val, 0] S512x512.size inb).emb t)) shapeCasts_S512x512_S512x512)).trans ?_
  funext t
  have h1 := shapeCast_addUnit_apply (n := 2) ![512, 512] (fun t => x ((Rect.unit (s := S4096x512) ![512 * (rot d i.val c).val, 0] S512x512.size inb).emb t)) shapeCasts_S512x512_S1x512x512 t
  refine h1.trans ?_
  unfold stk
  have e0 : (((rRow i).emb t) 0).val = i.val := by
    show i.val + 1 * (t 0).val = i.val
    have : (t 0).val < 1 := (t 0).isLt
    omega
  rw [e0]
  unfold xP
  congr 2
  funext a
  apply Fin.ext
  fin_cases a
  · show (t 1).val = 0 + 1 * (t 1).val; omega
  · show (t 2).val = 0 + 1 * (t 2).val; omega

theorem rows_join (c : Dev nD) (m : Memref sig .tc .vmem ⟨3, ![n, 512, 512]⟩ .fp8e5m2) (Y : (⟨3, ![n, 512, 512]⟩ : Shape).Idx → Elt F .fp8e5m2) :
    (bigSep Finset.univ fun i : Fin n => owns (c : Thread nD τ) (rowM m i) fullShare (fun j => Y ((rRow i).emb j)))
      ⊢ (owns (c : Thread nD τ) m fullShare Y : sProp 𝕄) :=
  owns_of_rects (c : Thread nD τ) m fullShare rRow (fun _ _ => rfl) rows_disjoint rows_cover Y

end Rows

/-! ## Columns -/

theorem cols_disjoint (p p' : Bool × Fin 2) (h : p ≠ p') : Disjoint (rCol p.1 p.2).set (rCol p'.1 p'.2).set := by
  have : col p.1 p.2 + 2048 ≤ col p'.1 p'.2 ∨ col p'.1 p'.2 + 2048 ≤ col p.1 p.2 := by revert p p'; decide
  exact Rect.unit_disjoint (s := S512x8192) (1 : Fin 2) this

theorem cols_cover : (Finset.univ : Finset (Bool × Fin 2)).biUnion (fun p => (rCol p.1 p.2).set) = Finset.univ := by
  ext i
  simp only [Finset.mem_biUnion, Finset.mem_univ, true_and, iff_true]
  have i0 : (i 0).val < 512 := (i 0).isLt
  have i1 : (i 1).val < 8192 := (i 1).isLt
  have key : ∃ p : Bool × Fin 2, col p.1 p.2 ≤ (i 1).val ∧ (i 1).val < col p.1 p.2 + 2048 := by
    rcases Nat.lt_or_ge (i 1).val 2048 with h | h
    · exact ⟨(true, 0), Nat.zero_le _, by show (i 1).val < 0 + 2048; omega⟩
    rcases Nat.lt_or_ge (i 1).val 4096 with h' | h'
    · exact ⟨(true, 1), h, by show (i 1).val < 2048 + 2048; omega⟩
    rcases Nat.lt_or_ge (i 1).val 6144 with h'' | h''
    · exact ⟨(false, 0), h', by show (i 1).val < 4096 + 2048; omega⟩
    · exact ⟨(false, 1), h'', by show (i 1).val < 6144 + 2048; omega⟩
  obtain ⟨p, hp⟩ := key
  refine ⟨p, ?_⟩
  rw [Rect.mem_set_unit]
  intro a
  fin_cases a
  · exact ⟨Nat.zero_le _, by show (i 0).val < 0 + 512; omega⟩
  · exact hp

/-- The result buffer's four chunks. -/
theorem out_split (c : Dev nD) (Y : S512x8192.Idx → Elt F .f32) :
    (owns (c : Thread nD τ) a4 fullShare Y : sProp 𝕄)
      ⊢ bigSep Finset.univ fun p : Bool × Fin 2 => owns (c : Thread nD τ) (ocol p.1 p.2) fullShare (fun j => Y ((rCol p.1 p.2).emb j)) :=
  owns_rects (c : Thread nD τ) a4 fullShare (fun p : Bool × Fin 2 => rCol p.1 p.2) (fun _ _ => rfl) cols_disjoint cols_cover Y
theorem out_join (c : Dev nD) (Y : S512x8192.Idx → Elt F .f32) :
    (bigSep Finset.univ fun p : Bool × Fin 2 => owns (c : Thread nD τ) (ocol p.1 p.2) fullShare (fun j => Y ((rCol p.1 p.2).emb j)))
      ⊢ (owns (c : Thread nD τ) a4 fullShare Y : sProp 𝕄) :=
  owns_of_rects (c : Thread nD τ) a4 fullShare (fun p : Bool × Fin 2 => rCol p.1 p.2) (fun _ _ => rfl) cols_disjoint cols_cover Y

theorem halves_disjoint (d d' : Bool) (h : d ≠ d') : Disjoint (rHalf d).set (rHalf d').set := by
  have : off d + 4096 ≤ off d' ∨ off d' + 4096 ≤ off d := by revert d d'; decide
  exact Rect.unit_disjoint (s := S512x8192) (1 : Fin 2) this

theorem halves_cover : (Finset.univ : Finset Bool).biUnion (fun d => (rHalf d).set) = Finset.univ := by
  ext i
  simp only [Finset.mem_biUnion, Finset.mem_univ, true_and, iff_true]
  have i0 : (i 0).val < 512 := (i 0).isLt
  have i1 : (i 1).val < 8192 := (i 1).isLt
  have key : ∃ d : Bool, off d ≤ (i 1).val ∧ (i 1).val < off d + 4096 := by
    rcases Nat.lt_or_ge (i 1).val 4096 with h | h
    · exact ⟨true, Nat.zero_le _, by show (i 1).val < 0 + 4096; omega⟩
    · exact ⟨false, h, by show (i 1).val < 4096 + 4096; omega⟩
  obtain ⟨d, hd⟩ := key
  refine ⟨d, ?_⟩
  rw [Rect.mem_set_unit]
  intro a
  fin_cases a
  · exact ⟨Nat.zero_le _, by show (i 0).val < 0 + 512; omega⟩
  · exact hd

theorem w_split (c : Dev nD) (q : PosShare TreeShare) (w : WT F) :
    (owns (c : Thread nD τ) a1 q w : sProp 𝕄) ⊢ iprop(owns (c : Thread nD τ) (whalf true) q (wP w true) ∗ owns (c : Thread nD τ) (whalf false) q (wP w false)) := by
  refine (owns_rects (c : Thread nD τ) a1 q rHalf (fun _ _ => rfl) halves_disjoint halves_cover w).trans (Entails.of_eq ?_)
  rw [bigSep_univ_eq_bigSepL [true, false] (by decide) (by decide), bigSepL_cons', bigSepL_singleton]
  rfl
theorem w_join (c : Dev nD) (q : PosShare TreeShare) (w : WT F) :
    iprop(owns (c : Thread nD τ) (whalf true) q (wP w true) ∗ owns (c : Thread nD τ) (whalf false) q (wP w false)) ⊢ (owns (c : Thread nD τ) a1 q w : sProp 𝕄) := by
  refine Entails.trans (Entails.of_eq ?_) (owns_of_rects (c : Thread nD τ) a1 q rHalf (fun _ _ => rfl) halves_disjoint halves_cover w)
  rw [bigSep_univ_eq_bigSepL [true, false] (by decide) (by decide), bigSepL_cons', bigSepL_singleton]
  rfl

/-! ## The slots of a weight buffer -/

/-- The elements of a slot. -/
def wset (d : Bool) (k : Fin 4) : Finset (wbuf d).view.ty.Idx := ((wbuf d).view.slice (Rect.unit (s := S4x512x4096) ![k.val, 0, 0] S1x512x4096.size (inb_slot k))).set

theorem wset_disjoint (d : Bool) (k k' : Fin 4) (h : k ≠ k') : Disjoint (wset d k) (wset d k') := by
  unfold wset
  rw [View.set_slice, View.set_slice]
  refine (Finset.disjoint_map _).mpr (Rect.unit_disjoint (s := S4x512x4096) (0 : Fin 3) ?_)
  have : k.val ≠ k'.val := fun e => h (Fin.ext e)
  rcases Nat.lt_or_gt_of_ne this with h | h
  · exact Or.inl (by show k.val + 1 ≤ k'.val; omega)
  · exact Or.inr (by show k'.val + 1 ≤ k.val; omega)

theorem wset_cover (d : Bool) : wset d 0 ∪ (wset d 1 ∪ (wset d 2 ∪ wset d 3)) = (wbuf d).view.set := by
  have hs (k : Fin 4) : wset d k = (Rect.unit (s := S4x512x4096) ![k.val, 0, 0] S1x512x4096.size (inb_slot k)).set.map (wbuf d).view.emb := View.set_slice _ _
  rw [hs 0, hs 1, hs 2, hs 3, ← Finset.map_union, ← Finset.map_union, ← Finset.map_union]
  show Finset.map (wbuf d).view.emb _ = Finset.map (wbuf d).view.emb Finset.univ
  refine congrArg (Finset.map (wbuf d).view.emb) ?_
  ext i
  simp only [Finset.mem_union, Finset.mem_univ, iff_true]
  have i0 : (i 0).val < 4 := (i 0).isLt
  have i1 : (i 1).val < 512 := (i 1).isLt
  have i2 : (i 2).val < 4096 := (i 2).isLt
  have key (k : Fin 4) (hk : (i 0).val = k.val) : i ∈ (Rect.unit (s := S4x512x4096) ![k.val, 0, 0] S1x512x4096.size (inb_slot k)).set := by
    rw [Rect.mem_set_unit]
    intro a
    fin_cases a
    · exact ⟨by show k.val ≤ (i 0).val; omega, by show (i 0).val < k.val + 1; omega⟩
    · exact ⟨Nat.zero_le _, by show (i 1).val < 0 + 512; omega⟩
    · exact ⟨Nat.zero_le _, by show (i 2).val < 0 + 4096; omega⟩
  rcases (show (i 0).val = 0 ∨ (i 0).val = 1 ∨ (i 0).val = 2 ∨ (i 0).val = 3 by omega) with h | h | h | h
  · exact Or.inl (key 0 h)
  · exact Or.inr (Or.inl (key 1 h))
  · exact Or.inr (Or.inr (Or.inl (key 2 h)))
  · exact Or.inr (Or.inr (Or.inr (key 3 h)))

theorem slot_wset (d : Bool) (k : Fin 4) (c : Dev nD) :
    (slot ((wslot d k).view.loc (c : Thread nD τ)) (wslot d k).view.set : sProp 𝕄) = slot ((wbuf d).view.loc (c : Thread nD τ)) (wset d k) := by
  have e : (wslot d k).view.set = wset d k := View.set_reshape (v := (wslot1 d k).view) _
  exact congrArg (fun S => (slot ((wbuf d).view.loc (c : Thread nD τ)) S : sProp 𝕄)) e

theorem wslots_split (c : Dev nD) (d : Bool) : slot ((wbuf d).view.loc (c : Thread nD τ)) (wbuf d).view.set
    ⊢ (iprop(landing (trW d 0) c ∗ landing (trW d 1) c ∗ landing (trW d 2) c ∗ landing (trW d 3) c) : sProp 𝕄) := by
  have e0 : (landing (trW d 0) c : sProp 𝕄) = _ := slot_wset d 0 c
  have e1 : (landing (trW d 1) c : sProp 𝕄) = _ := slot_wset d 1 c
  have e2 : (landing (trW d 2) c : sProp 𝕄) = _ := slot_wset d 2 c
  have e3 : (landing (trW d 3) c : sProp 𝕄) = _ := slot_wset d 3 c
  rw [← wset_cover d, e0, e1, e2, e3]
  iintro H
  ihave H' := (slot_split (Finset.disjoint_union_right.mpr ⟨wset_disjoint d 0 1 (by decide), Finset.disjoint_union_right.mpr ⟨wset_disjoint d 0 2 (by decide), wset_disjoint d 0 3 (by decide)⟩⟩)) $$ H
  icases H' with ⟨H0, H⟩
  isplitl [H0]; · iexact H0
  ihave H' := (slot_split (Finset.disjoint_union_right.mpr ⟨wset_disjoint d 1 2 (by decide), wset_disjoint d 1 3 (by decide)⟩)) $$ H
  icases H' with ⟨H1, H⟩
  isplitl [H1]; · iexact H1
  iapply (slot_split (wset_disjoint d 2 3 (by decide)))
  iexact H

theorem wslots_join (c : Dev nD) (d : Bool) : (iprop(landing (trW d 0) c ∗ landing (trW d 1) c ∗ landing (trW d 2) c ∗ landing (trW d 3) c) : sProp 𝕄)
    ⊢ slot ((wbuf d).view.loc (c : Thread nD τ)) (wbuf d).view.set := by
  have e0 : (landing (trW d 0) c : sProp 𝕄) = _ := slot_wset d 0 c
  have e1 : (landing (trW d 1) c : sProp 𝕄) = _ := slot_wset d 1 c
  have e2 : (landing (trW d 2) c : sProp 𝕄) = _ := slot_wset d 2 c
  have e3 : (landing (trW d 3) c : sProp 𝕄) = _ := slot_wset d 3 c
  rw [← wset_cover d, e0, e1, e2, e3]
  iintro ⟨H0, H1, H2, H3⟩
  iapply (slot_join (Finset.disjoint_union_right.mpr ⟨wset_disjoint d 0 1 (by decide), Finset.disjoint_union_right.mpr ⟨wset_disjoint d 0 2 (by decide), wset_disjoint d 0 3 (by decide)⟩⟩))
  isplitl [H0]; · iexact H0
  iapply (slot_join (Finset.disjoint_union_right.mpr ⟨wset_disjoint d 1 2 (by decide), wset_disjoint d 1 3 (by decide)⟩))
  isplitl [H1]; · iexact H1
  iapply (slot_join (wset_disjoint d 2 3 (by decide)))
  isplitl [H2] <;> iassumption

/-! ## A weight half on its way -/

section W
variable (X : Dev nD → XT F) (Wt : Dev nD → WT F)

/-- The share of an arrived weight half that the device keeps for its own products. -/
def Wr (d : Bool) (h : Fin 7) (c : Dev nD) : sProp 𝕄 := owns (c : Thread nD τ) (dstM (trW d h)) (fullShare).right (cont X Wt (trW d h) c)

theorem srcM_succ (d : Bool) (h : Fin 6) : srcM (trW d h.succ) = dstM (trW d h.castSucc) := by
  fin_cases h <;> rfl

theorem cont_succ (d : Bool) (h : Fin 6) (c : Dev nD) : cont X Wt (trW d h.succ) (nxt d c) = cont X Wt (trW d h.castSucc) c := by
  show wP (Wt (rot (!d) (h.val + 1 + 1) (nxt d c))) d = wP (Wt (rot (!d) (h.val + 1) c)) d
  rw [rot_back_nxt]

/-- An arrived half goes on at one share and is kept at the other; -/
theorem dst_halves6 (d : Bool) (h : Fin 6) (c : Dev nD) :
    dstPts X Wt (trW d h.castSucc) c ⊢ (iprop(srcPts X Wt (trW d h.succ) c ∗ Wr X Wt d h.castSucc c) : sProp 𝕄) := by
  unfold dstPts srcPts Wr
  rw [srcM_succ, show dir (trW d h.succ) = d from rfl, cont_succ]
  exact (owns_halves (c : Thread nD τ) (dstM (trW d h.castSucc)) fullShare _).1

/-- when both are back its slot is free. -/
theorem halves_slot6 (d : Bool) (h : Fin 6) (c : Dev nD) :
    (iprop(srcPts X Wt (trW d h.succ) c ∗ Wr X Wt d h.castSucc c) : sProp 𝕄) ⊢ landing (trW d h.castSucc) c := by
  unfold srcPts Wr
  rw [srcM_succ, show dir (trW d h.succ) = d from rfl, cont_succ]
  exact ((owns_halves (c : Thread nD τ) (dstM (trW d h.castSucc)) fullShare _).2).trans (owns_slot c _ _)

theorem dst_halves (d : Bool) (h g : Fin 7) (hg : g.val = h.val + 1) (c : Dev nD) :
    dstPts X Wt (trW d h) c ⊢ (iprop(srcPts X Wt (trW d g) c ∗ Wr X Wt d h c) : sProp 𝕄) := by
  have e2 : g = (⟨h.val, by omega⟩ : Fin 6).succ := Fin.ext hg
  rw [e2]
  exact dst_halves6 X Wt d ⟨h.val, by omega⟩ c
theorem halves_slot (d : Bool) (h g : Fin 7) (hg : g.val = h.val + 1) (c : Dev nD) :
    (iprop(srcPts X Wt (trW d g) c ∗ Wr X Wt d h c) : sProp 𝕄) ⊢ landing (trW d h) c := by
  have e2 : g = (⟨h.val, by omega⟩ : Fin 6).succ := Fin.ext hg
  rw [e2]
  exact halves_slot6 X Wt d ⟨h.val, by omega⟩ c

/-- The device's own half at one share is the first hop's source. -/
theorem src_own (d : Bool) (c : Dev nD) : (srcPts X Wt (trW d 0) c : sProp 𝕄) = owns (c : Thread nD τ) (whalf d) (fullShare).left (wP (Wt c) d) := by
  have e : cont X Wt (trW d 0) (nxt d c) = wP (Wt c) d := by
    show wP (Wt (rot (!d) (0 + 1) (nxt d c))) d = _
    rw [rot_back_nxt, rot_zero]
  exact congrArg (fun Y => (owns (c : Thread nD τ) (whalf d) (fullShare).left Y : sProp 𝕄)) e

/-- The last hop's half in two shares, -/
def Wl (d : Bool) (c : Dev nD) : sProp 𝕄 := owns (c : Thread nD τ) (dstM (trW d 6)) (fullShare).left (cont X Wt (trW d 6) c)
theorem last_halves (d : Bool) (c : Dev nD) : dstPts X Wt (trW d 6) c ⊢ (iprop(Wl X Wt d c ∗ Wr X Wt d 6 c) : sProp 𝕄) := by
  unfold dstPts Wr Wl
  exact (owns_halves (c : Thread nD τ) (dstM (trW d 6)) fullShare _).1
/-- and its slot. -/
theorem last_slot (d : Bool) (c : Dev nD) : (iprop(Wl X Wt d c ∗ Wr X Wt d 6 c) : sProp 𝕄) ⊢ landing (trW d 6) c := by
  unfold Wr Wl
  exact ((owns_halves (c : Thread nD τ) (dstM (trW d 6)) fullShare _).2).trans (owns_slot c _ _)

theorem dst_slot (t : Tr) (c : Dev nD) : dstPts X Wt t c ⊢ (landing t c : sProp 𝕄) := owns_slot c _ _
theorem src_slot (q : XH) (c : Dev nD) : srcPts X Wt (trX q) c ⊢ (slot ((srcM (trX q)).view.loc (c : Thread nD τ)) (srcM (trX q)).view.set : sProp 𝕄) := owns_slot c _ _

end W

/-! ## A stack of tiles on its way -/

section Heads
variable (X : Dev nD → XT F) (Wt : Dev nD → WT F)

/-- Where the tile for the device itself lies after a hop. -/
abbrev hdM : XH → Memref sig .tc .vmem S1x512x512 .fp8e5m2
  | .inl 0 => hd4 b1c
  | .inl 1 => hd3 b2c
  | .inl 2 => hd2 b3c
  | .inl 3 => all1 b4c
  | .inr 0 => hd3 b1a
  | .inr 1 => hd2 b2a
  | .inr 2 => all1 b3a

/-- That tile: the device keeps it, the others go on. -/
abbrev Hd (q : XH) (c : Dev nD) : sProp 𝕄 := owns (c : Thread nD τ) (hdM q) fullShare (hdC X q c)

/-- An arrived stack: its head is the device's, its tail is the next hop's source. -/
theorem xhop {n : ℕ} (b : Memref sig .tc .vmem ⟨3, ![n + 1, 512, 512]⟩ .fp8e5m2) (d : Bool) (h : ℕ) (c : Dev nD)
    (h0 : ∀ a, (![0, 0, 0] : Fin 3 → ℕ) a + (![n + 1, 512, 512] : Fin 3 → ℕ) a ≤ (⟨3, ![n + 1, 512, 512]⟩ : Shape).size a)
    (h1 : ∀ a, (![0, 0, 0] : Fin 3 → ℕ) a + (![1, 512, 512] : Fin 3 → ℕ) a ≤ (⟨3, ![n + 1, 512, 512]⟩ : Shape).size a)
    (h2 : ∀ a, (![1, 0, 0] : Fin 3 → ℕ) a + (![n, 512, 512] : Fin 3 → ℕ) a ≤ (⟨3, ![n + 1, 512, 512]⟩ : Shape).size a) :
    (owns (c : Thread nD τ) (b.slice (Rect.unit (s := ⟨3, ![n + 1, 512, 512]⟩) ![0, 0, 0] ![n + 1, 512, 512] h0) (fun _ => rfl)) fullShare
        (stk (n := n + 1) (X (rot (!d) h c)) d c) : sProp 𝕄)
      ⊢ iprop(owns (c : Thread nD τ) (b.slice (Rect.unit (s := ⟨3, ![n + 1, 512, 512]⟩) ![0, 0, 0] ![1, 512, 512] h1) (fun _ => rfl)) fullShare
            (stk (n := 1) (X (rot (!d) h c)) d c)
          ∗ owns (c : Thread nD τ) (b.slice (Rect.unit (s := ⟨3, ![n + 1, 512, 512]⟩) ![1, 0, 0] ![n, 512, 512] h2) (fun _ => rfl)) fullShare
            (stk (n := n) (X (rot (!d) (h + 1) (nxt d c))) d (nxt d c))) := by
  rw [rot_back_nxt]
  exact owns_hdtl c b fullShare (X (rot (!d) h c)) d c h0 h1 h2

theorem xhop_c0 (c : Dev nD) : dstPts X Wt (trX (.inl 0)) c ⊢ (iprop(Hd X (.inl 0) c ∗ srcPts X Wt (trX (.inl 1)) c) : sProp 𝕄) := xhop X (n := 3) b1c true 1 c _ _ _
theorem xslot_c0 (c : Dev nD) : (iprop(Hd X (.inl 0) c ∗ srcPts X Wt (trX (.inl 1)) c) : sProp 𝕄) ⊢ slot ((b1c).view.loc (c : Thread nD τ)) (b1c).view.set :=
  slot_hdtl (n := 3) c b1c _ _ _ _
theorem xhop_c1 (c : Dev nD) : dstPts X Wt (trX (.inl 1)) c ⊢ (iprop(Hd X (.inl 1) c ∗ srcPts X Wt (trX (.inl 2)) c) : sProp 𝕄) := xhop X (n := 2) b2c true 2 c _ _ _
theorem xslot_c1 (c : Dev nD) : (iprop(Hd X (.inl 1) c ∗ srcPts X Wt (trX (.inl 2)) c) : sProp 𝕄) ⊢ slot ((b2c).view.loc (c : Thread nD τ)) (b2c).view.set :=
  slot_hdtl (n := 2) c b2c _ _ _ _
theorem xhop_c2 (c : Dev nD) : dstPts X Wt (trX (.inl 2)) c ⊢ (iprop(Hd X (.inl 2) c ∗ srcPts X Wt (trX (.inl 3)) c) : sProp 𝕄) := xhop X (n := 1) b3c true 3 c _ _ _
theorem xslot_c2 (c : Dev nD) : (iprop(Hd X (.inl 2) c ∗ srcPts X Wt (trX (.inl 3)) c) : sProp 𝕄) ⊢ slot ((b3c).view.loc (c : Thread nD τ)) (b3c).view.set :=
  slot_hdtl (n := 1) c b3c _ _ _ _
theorem xhop_a0 (c : Dev nD) : dstPts X Wt (trX (.inr 0)) c ⊢ (iprop(Hd X (.inr 0) c ∗ srcPts X Wt (trX (.inr 1)) c) : sProp 𝕄) := xhop X (n := 2) b1a false 1 c _ _ _
theorem xslot_a0 (c : Dev nD) : (iprop(Hd X (.inr 0) c ∗ srcPts X Wt (trX (.inr 1)) c) : sProp 𝕄) ⊢ slot ((b1a).view.loc (c : Thread nD τ)) (b1a).view.set :=
  slot_hdtl (n := 2) c b1a _ _ _ _
theorem xhop_a1 (c : Dev nD) : dstPts X Wt (trX (.inr 1)) c ⊢ (iprop(Hd X (.inr 1) c ∗ srcPts X Wt (trX (.inr 2)) c) : sProp 𝕄) := xhop X (n := 1) b2a false 2 c _ _ _
theorem xslot_a1 (c : Dev nD) : (iprop(Hd X (.inr 1) c ∗ srcPts X Wt (trX (.inr 2)) c) : sProp 𝕄) ⊢ slot ((b2a).view.loc (c : Thread nD τ)) (b2a).view.set :=
  slot_hdtl (n := 1) c b2a _ _ _ _

/-- The rows that are stored for the first hop of each direction. -/
abbrev R13 (c : Dev nD) (i : Fin 4) : sProp 𝕄 := owns (c : Thread nD τ) (rowM a13 i) fullShare (fun t => stk (n := 4) (X c) true (nxt true c) ((rRow i).emb t))
abbrev R14 (c : Dev nD) (i : Fin 3) : sProp 𝕄 := owns (c : Thread nD τ) (rowM a14 i) fullShare (fun t => stk (n := 3) (X c) false (nxt false c) ((rRow i).emb t))

theorem stage13 (c : Dev nD) : iprop(R13 X c 0 ∗ R13 X c 1 ∗ R13 X c 2 ∗ R13 X c 3) ⊢ (srcPts X Wt (trXc 0) c : sProp 𝕄) := by
  have e : (srcPts X Wt (trXc 0) c : sProp 𝕄) = owns (c : Thread nD τ) a13 fullShare (stk (n := 4) (X c) true (nxt true c)) := by
    refine (owns_full c a13 (by intro a; fin_cases a <;> rfl) _ fullShare (stk (n := 4) (X (rot false 1 (nxt true c))) true (nxt true c))).trans ?_
    rw [show rot false 1 (nxt true c) = rot false 0 c from rot_back_nxt true 0 c, rot_zero]
  rw [e]
  refine Entails.trans (Entails.of_eq ?_) (rows_join c a13 _)
  rw [bigSep_univ_eq_bigSepL [0, 1, 2, 3] (by decide) (by decide), bigSepL_cons', bigSepL_cons', bigSepL_cons', bigSepL_singleton]
theorem stage14 (c : Dev nD) : iprop(R14 X c 0 ∗ R14 X c 1 ∗ R14 X c 2) ⊢ (srcPts X Wt (trXa 0) c : sProp 𝕄) := by
  have e : (srcPts X Wt (trXa 0) c : sProp 𝕄) = owns (c : Thread nD τ) a14 fullShare (stk (n := 3) (X c) false (nxt false c)) := by
    refine (owns_full c a14 (by intro a; fin_cases a <;> rfl) _ fullShare (stk (n := 3) (X (rot true 1 (nxt false c))) false (nxt false c))).trans ?_
    rw [show rot true 1 (nxt false c) = rot true 0 c from rot_back_nxt false 0 c, rot_zero]
  rw [e]
  refine Entails.trans (Entails.of_eq ?_) (rows_join c a14 _)
  rw [bigSep_univ_eq_bigSepL [0, 1, 2] (by decide) (by decide), bigSepL_cons', bigSepL_cons', bigSepL_singleton]

/-- A stored row is the tile for the device it goes to. -/
theorem row_store {n : ℕ} (m : Memref sig .tc .vmem ⟨3, ![n, 512, 512]⟩ .fp8e5m2) (d : Bool) (c : Dev nD) (i : Fin n) (j : Dev nD) (hj : j = rot d (i.val + 1) c)
    (Y : S1x512x512.Idx → Elt F .fp8e5m2)
    (hY : Y = shapeCast S1x512x512 (shapeCast S512x512 (xP (X c) j) shapeCasts_S512x512_S512x512) shapeCasts_S512x512_S1x512x512) :
    (owns (c : Thread nD τ) (rowM m i) fullShare Y : sProp 𝕄)
      ⊢ owns (c : Thread nD τ) (rowM m i) fullShare (fun t => stk (n := n) (X c) d (nxt d c) ((rRow i).emb t)) := by
  rw [hY, show shapeCast S1x512x512 (shapeCast S512x512 (xP (X c) j) shapeCasts_S512x512_S512x512) shapeCasts_S512x512_S1x512x512
    = fun t => stk (n := n) (X c) d (nxt d c) ((rRow i).emb t) from row_pay (X c) d (nxt d c) j i ((rot_nxt d i.val c).trans hj.symm) rfl (inb_chunk j)]
  exact .rfl

end Heads

end Cert.RingMatmul

end
-- ==== Proof.Args.lean ====
/-
  The kernel's parts on the buffers and semaphores it is called with.
-/
module

public import proofs.«01_k».proof.Proof.Pieces

@[expose] public section

set_option maxRecDepth 16384

noncomputable section

namespace Cert.RingMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Release (slot)

variable {F : FTy → Type} [FloatOps F]

local notation "𝕄" => MT nD τ sig ℕ (Elt F) ℕ UU ℕ

/-- A part of the kernel on the launch's buffers and semaphores. -/
abbrev onArgs {R : Type _} (f : ∀ (arg0 : Memref sig .tc .vmem S4096x512 .fp8e5m2) (harg0 : arg0.IsWhole) (arg1 : Memref sig .tc .vmem S512x8192 .fp8e5m2) (harg1 : arg1.IsWhole) (arg2 : Memref sig .tc .smem S1 .f32) (harg2 : arg2.IsWhole) (arg3 : Memref sig .tc .smem S1 .f32) (harg3 : arg3.IsWhole) (arg4 : Memref sig .tc .vmem S512x8192 .f32) (harg4 : arg4.IsWhole) (arg5 : Memref sig .tc .vmem S4x512x4096 .fp8e5m2) (harg5 : arg5.IsWhole) (arg6 : Memref sig .tc .vmem S4x512x4096 .fp8e5m2) (harg6 : arg6.IsWhole) (arg7 : DmaSems sig S7) (arg8 : DmaSems sig S7) (arg9 : DmaSems sig S7) (arg10 : DmaSems sig S7) (arg11 : Sems sig S_) (arg12 : Sems sig S_) (arg13 : Memref sig .tc .vmem S4x512x512 .fp8e5m2) (harg13 : arg13.IsWhole) (arg14 : Memref sig .tc .vmem S3x512x512 .fp8e5m2) (harg14 : arg14.IsWhole) (arg15 : Memref sig .tc .vmem S4x512x512 .fp8e5m2) (harg15 : arg15.IsWhole) (arg16 : Memref sig .tc .vmem S3x512x512 .fp8e5m2) (harg16 : arg16.IsWhole) (arg17 : Memref sig .tc .vmem S2x512x512 .fp8e5m2) (harg17 : arg17.IsWhole) (arg18 : Memref sig .tc .vmem S1x512x512 .fp8e5m2) (harg18 : arg18.IsWhole) (arg19 : Memref sig .tc .vmem S3x512x512 .fp8e5m2) (harg19 : arg19.IsWhole) (arg20 : Memref sig .tc .vmem S2x512x512 .fp8e5m2) (harg20 : arg20.IsWhole) (arg21 : Memref sig .tc .vmem S1x512x512 .fp8e5m2) (harg21 : arg21.IsWhole) (arg22 : DmaSems sig S4) (arg23 : DmaSems sig S4) (arg24 : DmaSems sig S3) (arg25 : DmaSems sig S3), R) : R :=
  f a0 (Memref.isWhole_whole _) a1 (Memref.isWhole_whole _) a2 (Memref.isWhole_whole _) a3 (Memref.isWhole_whole _) a4 (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20

end Cert.RingMatmul

end
-- ==== Proof.Walk.lean ====
/-
  The rules by which the kernel's parts are walked through, an event or an access at a time: the state before it on the left,
  what holds after it handed to the rest of the program.
-/
module

public import proofs.«01_k».proof.Proof.Args

@[expose] public section

set_option maxRecDepth 16384

noncomputable section

namespace Cert.RingMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Release (slot)

variable {F : FTy → Type} [FloatOps F]

local notation "𝕄" => MT nD τ sig ℕ (Elt F) ℕ UU ℕ

/-- The obligation of a program on device `c`. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

section Walk
variable (X : Dev nD → XT F) (Wt : Dev nD → WT F) (K : Dev nD × CK → ℕ) (Ks : SK → ℕ)

/-- A weight half arrives: it is held for the next hop and for the products. -/
theorem rcvW {α : Type} {Q : α → sProp 𝕄} {k : PUnit → Prog (TpuEff nD τ sig (Elt F) Λ₀ .tc) α}
    (c : Dev nD) (d : Bool) (h g : Fin 7) (hg : g.val = h.val + 1) (i : ℕ) (hi : evs.drop i = .recv (trW d h) :: evs.drop (i + 1)) (hl : above (10 * hop (trW d h)) (evs.drop (i + 1)) = true)
    {sh : Shape} {src : Memref sig .tc .vmem sh .fp8e5m2} {dst : Memref sig .tc .vmem (tsh (trW d h)) .fp8e5m2} (hd : dst = dstM (trW d h))
    {sR : DmaSem sig} (hR : sR = rcvSem (trW d h)) {hsrc : src.view.WordExact} {hdst : dst.view.WordExact} :
    Rec X Wt K Ks ⊢ iprop(Ctl c (evs.drop i)
      -∗ ((Ctl c (evs.drop (i + 1)) ∗ srcPts X Wt (trW d g) c ∗ Wr X Wt d h c) -∗ run c (k ⟨⟩) Q) -∗ run c (.op (.waitDma2 sR src dst hsrc hdst) k) Q) := by
  rw [hi]
  iintro #HR HC Hk
  iapply (step_recv X Wt K Ks c (trW d h) _ hl hd hR) $$ [HC]
  · isplitr; · iexact HR
    iexact HC
  iintro ⟨HC, Hd⟩
  ihave Hd' := (dst_halves X Wt d h g hg c) $$ Hd
  iapply Hk
  isplitl [HC]; · iexact HC
  iexact Hd'

/-- Anything else arrives. -/
theorem rcv {α : Type} {Q : α → sProp 𝕄} {k : PUnit → Prog (TpuEff nD τ sig (Elt F) Λ₀ .tc) α}
    (c : Dev nD) (t : Tr) {P : sProp 𝕄} (hP : dstPts X Wt t c ⊢ P) (i : ℕ) (hi : evs.drop i = .recv t :: evs.drop (i + 1)) (hl : above (10 * hop t) (evs.drop (i + 1)) = true)
    {sh : Shape} {src : Memref sig .tc .vmem sh .fp8e5m2} {dst : Memref sig .tc .vmem (tsh t) .fp8e5m2} (hd : dst = dstM t)
    {sR : DmaSem sig} (hR : sR = rcvSem t) {hsrc : src.view.WordExact} {hdst : dst.view.WordExact} :
    Rec X Wt K Ks ⊢ iprop(Ctl c (evs.drop i)
      -∗ ((Ctl c (evs.drop (i + 1)) ∗ P) -∗ run c (k ⟨⟩) Q) -∗ run c (.op (.waitDma2 sR src dst hsrc hdst) k) Q) := by
  rw [hi]
  iintro #HR HC Hk
  iapply (step_recv X Wt K Ks c t _ hl hd hR) $$ [HC]
  · isplitr; · iexact HR
    iexact HC
  iintro ⟨HC, Hd⟩
  iapply Hk
  isplitl [HC]; · iexact HC
  iapply hP; iexact Hd

/-- A transfer starts. -/
theorem snd {α : Type} {Q : α → sProp 𝕄} {k : PUnit → Prog (TpuEff nD τ sig (Elt F) Λ₀ .tc) α}
    (c n : Dev nD) (t : Tr) (d : Bool) (hdir : dir t = d) (hn : n = nxt d c) (i : ℕ) (hi : evs.drop i = .send t :: evs.drop (i + 1))
    {src dst : Memref sig .tc .vmem (tsh t) .fp8e5m2} (hs : src = srcM t) (hd : dst = dstM t)
    {sS sR : DmaSem sig} (hS : sS = sndSem t) (hR : sR = rcvSem t)
    {hsc : (dst : Memref sig (Dev.tc n : Thread nD τ).2.kind .vmem (tsh t) .fp8e5m2).view.ref.isScScratch = false}
    {hsrc : src.view.WordExact} {hdst : dst.view.WordExact}
    {hsem : DmaTarget.Typed .vmem (.dma sR) (.remote (Dev.tc n : Thread nD τ) (dst : Memref sig (Dev.tc n : Thread nD τ).2.kind .vmem (tsh t) .fp8e5m2) (.dma sS) hsc)} :
    Rec X Wt K Ks ⊢ iprop(Ctl c (evs.drop i) -∗ srcPts X Wt t c -∗ landing t (nxt d c)
      -∗ ((Ctl c (evs.drop (i + 1)) ∗ sent t c) -∗ run c (k ⟨⟩) Q)
      -∗ run c (.op (.enqueueDma src (.remote (Dev.tc n : Thread nD τ) dst (.dma sS) hsc) (.dma sR) hsrc hdst hsem) k) Q) := by
  rw [hi]
  subst hdir
  iintro #HR HC Hs Hl
  iapply (step_send X Wt K Ks c n t hn _ hs hd hS hR)
  isplitr; · iexact HR
  isplitl [HC]; · iexact HC
  isplitl [Hs]; · iexact Hs
  iexact Hl

/-- A weight half has left: the slot it came from is free. -/
theorem wsnW {α : Type} {Q : α → sProp 𝕄} {k : PUnit → Prog (TpuEff nD τ sig (Elt F) Λ₀ .tc) α}
    (c : Dev nD) (d : Bool) (h g : Fin 7) (hg : g.val = h.val + 1) (i : ℕ) (hi : evs.drop i = .wsnd (trW d g) :: evs.drop (i + 1)) (hl : above 0 (evs.drop (i + 1)) = true)
    {sh : Shape} {src : Memref sig .tc .vmem sh .fp8e5m2} {dst : Memref sig .tc .vmem (tsh (trW d g)) .fp8e5m2} (hd : dst.view.dmaCredit = Nn (trW d g))
    {sS : DmaSem sig} (hS : sS = sndSem (trW d g)) {hsrc : src.view.WordExact} {hdst : dst.view.WordExact} :
    Rec X Wt K Ks ⊢ iprop(Ctl c (evs.drop i) -∗ sent (trW d g) c -∗ Wr X Wt d h c
      -∗ ((Ctl c (evs.drop (i + 1)) ∗ landing (trW d h) c) -∗ run c (k ⟨⟩) Q) -∗ run c (.op (.waitDma2 sS src dst hsrc hdst) k) Q) := by
  rw [hi]
  iintro #HR HC Hs Hw Hk
  iapply (step_wsnd X Wt K Ks c (trW d g) _ hl hd hS) $$ [HC Hs]
  · isplitr; · iexact HR
    isplitl [HC]; · iexact HC
    iexact Hs
  iintro ⟨HC, Hs⟩
  iapply Hk
  isplitl [HC]; · iexact HC
  iapply (halves_slot X Wt d h g hg c)
  isplitl [Hs]; · iexact Hs
  iexact Hw

/-- Anything else has left. -/
theorem wsn {α : Type} {Q : α → sProp 𝕄} {k : PUnit → Prog (TpuEff nD τ sig (Elt F) Λ₀ .tc) α}
    (c : Dev nD) (t : Tr) (i : ℕ) (hi : evs.drop i = .wsnd t :: evs.drop (i + 1)) (hl : above 0 (evs.drop (i + 1)) = true)
    {sh : Shape} {src : Memref sig .tc .vmem sh .fp8e5m2} {dst : Memref sig .tc .vmem (tsh t) .fp8e5m2} (hd : dst.view.dmaCredit = Nn t)
    {sS : DmaSem sig} (hS : sS = sndSem t) {hsrc : src.view.WordExact} {hdst : dst.view.WordExact} :
    Rec X Wt K Ks ⊢ iprop(Ctl c (evs.drop i) -∗ sent t c
      -∗ ((Ctl c (evs.drop (i + 1)) ∗ srcPts X Wt t c) -∗ run c (k ⟨⟩) Q) -∗ run c (.op (.waitDma2 sS src dst hsrc hdst) k) Q) := by
  rw [hi]
  iintro #HR HC Hs
  iapply (step_wsnd X Wt K Ks c t _ hl hd hS)
  isplitr; · iexact HR
  isplitl [HC]; · iexact HC
  iexact Hs

/-- A neighbour is told that the device is there, and gets its landings. -/
theorem sgb {α : Type} {Q : α → sProp 𝕄} {k : PUnit → Prog (TpuEff nD τ sig (Elt F) Λ₀ .tc) α}
    (c n : Dev nD) (d : Bool) (hn : n = frm d c) (i : ℕ) (hi : evs.drop i = .sigB d :: evs.drop (i + 1)) {s : Sem sig} (hs : s = barS) {a : ℤ} (ha : a = ((1 : ℕ) : ℤ)) :
    Rec X Wt K Ks ⊢ iprop(Ctl c (evs.drop i) -∗ landings d c
      -∗ (Ctl c (evs.drop (i + 1)) -∗ run c (k ⟨⟩) Q) -∗ run c (.op (.semSignal (n : Thread nD τ) s a) k) Q) := by
  rw [hi, hs]
  iintro #HR HC Hl
  iapply (step_sigB X Wt K Ks c n d hn _ ha)
  isplitr; · iexact HR
  isplitl [HC]; · iexact HC
  iexact Hl

/-- Both neighbours have told it. -/
theorem wbr {α : Type} {Q : α → sProp 𝕄} {k : PUnit → Prog (TpuEff nD τ sig (Elt F) Λ₀ .tc) α}
    (c : Dev nD) (i : ℕ) (hi : evs.drop i = .wbar :: evs.drop (i + 1)) (hl : above 1 (evs.drop (i + 1)) = true) {s : Sem sig} (hs : s = barS) {a : ℤ} (ha : a = ((2 : ℕ) : ℤ)) :
    Rec X Wt K Ks ⊢ iprop(Ctl c (evs.drop i)
      -∗ ((Ctl c (evs.drop (i + 1)) ∗ landings true (nxt true c) ∗ landings false (nxt false c)) -∗ run c (k ⟨⟩) Q) -∗ run c (.op (.semWait s a) k) Q) := by
  rw [hi, hs]
  iintro #HR HC
  iapply (step_wbar X Wt K Ks c _ hl ha)
  isplitr; · iexact HR
  iexact HC

/-- A slot is given back to the neighbour that fills it. -/
theorem sgn {α : Type} {Q : α → sProp 𝕄} {k : PUnit → Prog (TpuEff nD τ sig (Elt F) Λ₀ .tc) α}
    (c n : Dev nD) (d : Bool) (j : Fin 3) (t : Tr) (ht : ∀ x, (landing (slotT d j) x : sProp 𝕄) = landing t x) (m m' : ℕ) (hm : j.val = m) (hm' : j.val + 1 = m') (hn : n = frm d c) (i : ℕ) (hi : evs.drop i = .sig d j :: evs.drop (i + 1)) {s : Sem sig} (hs : s = crS d) {a : ℤ} (ha : a = ((1 : ℕ) : ℤ)) :
    Rec X Wt K Ks ⊢ iprop(Ctl c (evs.drop i) -∗ landing t c -∗ freed d m c
      -∗ ((Ctl c (evs.drop (i + 1)) ∗ freed d m' c) -∗ run c (k ⟨⟩) Q) -∗ run c (.op (.semSignal (n : Thread nD τ) s a) k) Q) := by
  rw [hi, ← ht, ← hm, ← hm']
  iintro #HR HC Hl Hf
  iapply (step_sig X Wt K Ks c n d j hn _ hs ha)
  isplitr; · iexact HR
  isplitl [HC]; · iexact HC
  isplitl [Hl]; · iexact Hl
  iexact Hf

/-- The neighbour's slot is got, but for the last; -/
theorem wcr {α : Type} {Q : α → sProp 𝕄} {k : PUnit → Prog (TpuEff nD τ sig (Elt F) Λ₀ .tc) α}
    (c : Dev nD) (d : Bool) (j : Fin 3) (t : Tr) (ht : ∀ x, (landing (slotT d j) x : sProp 𝕄) = landing t x) (m m' : ℕ) (hm : j.val = m) (hm' : j.val + 1 = m') (hj : closes (.wcr d j) = none) (i : ℕ) (hi : evs.drop i = .wcr d j :: evs.drop (i + 1)) (hl : above (10 * (j.val + 3) + 5) (evs.drop (i + 1)) = true)
    {s : Sem sig} (hs : s = crS d) {a : ℤ} (ha : a = ((1 : ℕ) : ℤ)) :
    Rec X Wt K Ks ⊢ iprop(Ctl c (evs.drop i) -∗ crSt c d m
      -∗ ((Ctl c (evs.drop (i + 1)) ∗ crSt c d m' ∗ landing t (nxt d c)) -∗ run c (k ⟨⟩) Q) -∗ run c (.op (.semWait s a) k) Q) := by
  rw [hi, ← ht, ← hm, ← hm']
  iintro #HR HC Hc
  iapply (step_wcr X Wt K Ks c d j hj _ hl hs ha)
  isplitr; · iexact HR
  isplitl [HC]; · iexact HC
  iexact Hc

/-- and the last. -/
theorem wcr2 {α : Type} {Q : α → sProp 𝕄} {k : PUnit → Prog (TpuEff nD τ sig (Elt F) Λ₀ .tc) α}
    (c : Dev nD) (d : Bool) (t : Tr) (ht : ∀ x, (landing (slotT d 2) x : sProp 𝕄) = landing t x) (i : ℕ) (hi : evs.drop i = .wcr d 2 :: evs.drop (i + 1)) (hl : above 55 (evs.drop (i + 1)) = true)
    {s : Sem sig} (hs : s = crS d) {a : ℤ} (ha : a = ((1 : ℕ) : ℤ)) :
    Rec X Wt K Ks ⊢ iprop(Ctl c (evs.drop i) -∗ crSt c d 2
      -∗ ((Ctl c (evs.drop (i + 1)) ∗ landing t (nxt d c)) -∗ run c (k ⟨⟩) Q) -∗ run c (.op (.semWait s a) k) Q) := by
  rw [hi, ← ht]
  iintro #HR HC Hc
  iapply (step_wcr2 X Wt K Ks c d _ hl hs ha)
  isplitr; · iexact HR
  isplitl [HC]; · iexact HC
  iexact Hc

/-- The weights that are kept are loaded. -/
theorem ldW {α : Type} {Q : α → sProp 𝕄} (c : Dev nD) (d : Bool) (h : Fin 7) (i : Fin 4) (hi : dstM (trW d h) = wslot d i)
    {hl : (wbuf d).view.LoadsAt (Rect.unit (s := S4x512x4096) ![i.val, 0, 0] S1x512x4096.size (inb_slot i)).toLoadRect}
    {k : Vec F S1x512x4096 .fp8e5m2 → Prog (TpuEff nD τ sig (Elt F) Λ₀ .tc) α} :
    Wr X Wt d h c ⊢ iprop((Wr X Wt d h c -∗ run c (k (w3 Wt d h.val c)) Q)
      -∗ run c (.op (.load (wbuf d) (Rect.unit (s := S4x512x4096) ![i.val, 0, 0] S1x512x4096.size (inb_slot i)).toLoadRect hl) k) Q) := by
  have e : (Wr X Wt d h c : sProp 𝕄) = owns (c : Thread nD τ) (wslot d i) (fullShare).right (wP (Wt (rot (!d) (h.val + 1) c)) d) := by
    unfold Wr
    exact congrArg (fun m : Memref sig .tc .vmem S512x4096 .fp8e5m2 => (owns (c : Thread nD τ) m (fullShare).right (wP (Wt (rot (!d) (h.val + 1) c)) d) : sProp 𝕄)) hi
  rw [e]
  exact ld_sq c (hr := fun _ => rfl) (hs := squeezes_S1x512x4096_S512x4096)

/-- A load of an owned slice by a rectangle of unit strides. -/
theorem ldu {α : Type} {Q : α → sProp 𝕄} (c : Dev nD) {cs : CoreSpace} {s : Shape} {e : EltTy} {m : Memref sig .tc cs s e}
    {off size : Fin s.rank → ℕ} {inb : ∀ a, off a + size a ≤ s.size a} {q : PosShare TreeShare} {Y : (Rect.unit (s := s) off size inb).shape.Idx → Elt F e}
    {hl : m.view.LoadsAt (Rect.unit (s := s) off size inb).toLoadRect}
    {k : ((Rect.unit (s := s) off size inb).shape.Idx → Elt F e) → Prog (TpuEff nD τ sig (Elt F) Λ₀ .tc) α} :
    (owns (c : Thread nD τ) (m.slice (Rect.unit (s := s) off size inb) (fun _ => rfl)) q Y : sProp 𝕄)
      ⊢ iprop((owns (c : Thread nD τ) (m.slice (Rect.unit (s := s) off size inb) (fun _ => rfl)) q Y -∗ run c (k Y) Q)
          -∗ run c (.op (.load m (Rect.unit (s := s) off size inb).toLoadRect hl) k) Q) := ld c

/-- A chunk of the result is loaded, loaded once more without use, and replaced. -/
theorem upd {α : Type} {Q : α → sProp 𝕄} (c : Dev nD) (d : Bool) (o : Fin 2) {Y : S512x2048.Idx → Elt F .f32}
    {hl hl' : (a4).view.LoadsAt (rCol d o).toLoadRect} {f : Vec F S512x2048 .f32 → Vec F S512x2048 .f32} {hx : (a4.access (rCol d o)).Stores Finset.univ}
    {hm : (Finset.univ : Finset (rCol d o).shape.Idx) = Finset.univ ∨ ∀ a, (rCol d o).stride a = 1}
    {k : PUnit → Prog (TpuEff nD τ sig (Elt F) Λ₀ .tc) α} :
    (owns (c : Thread nD τ) (ocol d o) fullShare Y : sProp 𝕄)
      ⊢ iprop((owns (c : Thread nD τ) (ocol d o) fullShare (f Y) -∗ run c (k ⟨⟩) Q)
          -∗ run c (.op (.load a4 (rCol d o).toLoadRect hl) fun v => .op (.load a4 (rCol d o).toLoadRect hl') fun _ => .op (.store a4 (rCol d o) (f v) Finset.univ hx hm) k) Q) := by
  iintro H Hk
  iapply (ld c) $$ H
  iintro H
  iapply (ld c) $$ H
  iintro H
  iapply (st c) $$ H
  iintro H
  iapply Hk
  iexact H

/-- A load of a block of rows of `x`. -/
theorem ldx {α : Type} {Q : α → sProp 𝕄} (c j : Dev nD) {off : Fin 2 → ℕ} (h : off = ![512 * j.val, 0]) {q : PosShare TreeShare}
    {inb : ∀ a, off a + S512x512.size a ≤ S4096x512.size a} {hl : (a0).view.LoadsAt (Rect.unit (s := S4096x512) off S512x512.size inb).toLoadRect}
    {k : Vec F S512x512 .fp8e5m2 → Prog (TpuEff nD τ sig (Elt F) Λ₀ .tc) α} :
    (owns (c : Thread nD τ) a0 q (X c) : sProp 𝕄)
      ⊢ iprop((owns (c : Thread nD τ) a0 q (X c) -∗ run c (k (xP (X c) j)) Q)
          -∗ run c (.op (.load a0 (Rect.unit (s := S4096x512) off S512x512.size inb).toLoadRect hl) k) Q) := by
  subst h
  exact ld_sub (F := F) (m := a0) (r := Rect.unit (s := S4096x512) ![512 * j.val, 0] S512x512.size inb) (Y := X c) (k := k) c

/-- A slice is loaded without use and filled. -/
theorem put {α : Type} {Q : α → sProp 𝕄} (c : Dev nD) {s : Shape} {e : EltTy} {m : Memref sig .tc .vmem s e}
    {off size : Fin s.rank → ℕ} {inb : ∀ a, off a + size a ≤ s.size a} {Y w : (Rect.unit (s := s) off size inb).shape.Idx → Elt F e}
    {hl : m.view.LoadsAt (Rect.unit (s := s) off size inb).toLoadRect} {hx : (m.access (Rect.unit (s := s) off size inb)).Stores Finset.univ}
    {hm : (Finset.univ : Finset (Rect.unit (s := s) off size inb).shape.Idx) = Finset.univ ∨ ∀ a, (Rect.unit (s := s) off size inb).stride a = 1}
    {k : PUnit → Prog (TpuEff nD τ sig (Elt F) Λ₀ .tc) α} :
    (owns (c : Thread nD τ) (m.slice (Rect.unit (s := s) off size inb) (fun _ => rfl)) fullShare Y : sProp 𝕄)
      ⊢ iprop((owns (c : Thread nD τ) (m.slice (Rect.unit (s := s) off size inb) (fun _ => rfl)) fullShare w -∗ run c (k ⟨⟩) Q)
          -∗ run c (.op (.load m (Rect.unit (s := s) off size inb).toLoadRect hl) fun _ => .op (.store m (Rect.unit (s := s) off size inb) w Finset.univ hx hm) k) Q) := by
  iintro H Hk
  iapply (ld c) $$ H
  iintro H
  iapply (st c) $$ H
  iintro H
  iapply Hk
  iexact H

end Walk

/-- What a part of the kernel does on device `c`: from `A` it comes to the value `r` and `B`, whatever comes after it. -/
def Part {β : Type} (c : Dev nD) (p : Prog (TpuEff nD τ sig (Elt F) Λ₀ .tc) β) (r : β) (A B : sProp 𝕄) : Prop :=
  ∀ {α : Type} {Q : α → sProp 𝕄} {k : β → Prog (TpuEff nD τ sig (Elt F) Λ₀ .tc) α}, A ⊢ iprop((B -∗ run c (k r) Q) -∗ run c (p.bind k) Q)

/-- It is enough to look at the part alone. -/
theorem Part.of {β : Type} {c : Dev nD} {p : Prog (TpuEff nD τ sig (Elt F) Λ₀ .tc) β} {r : β} {A B : sProp 𝕄}
    (h : ∀ Q : β → sProp 𝕄, A ⊢ iprop((B -∗ Q r) -∗ run c p Q)) : Part c p r A B := by
  intro α Q k
  rw [show run c (p.bind k) Q = run c p (fun x => run c (k x) Q) from wp_bind _ _ _ p k Q]
  exact h (fun x => run c (k x) Q)

/-- A chunk of the result after the device's own product and `h` hops. -/
abbrev oc (X : Dev nD → XT F) (Wt : Dev nD → WT F) (c : Dev nD) (d : Bool) (o : Fin 2) (h : ℕ) : sProp 𝕄 :=
  owns (c : Thread nD τ) (ocol d o) fullShare (acc X Wt c d o h)
/-- The blocks the device is given. -/
abbrev xO (X : Dev nD → XT F) (c : Dev nD) : sProp 𝕄 := owns (c : Thread nD τ) a0 fullShare (X c)
abbrev wO (Wt : Dev nD → WT F) (c : Dev nD) : sProp 𝕄 := owns (c : Thread nD τ) a1 (fullShare).right (Wt c)
/-- A chunk, or a row, that is yet to be filled. -/
abbrev ocU (c : Dev nD) (d : Bool) (o : Fin 2) : sProp 𝕄 := iprop(∃ Y, owns (c : Thread nD τ) (ocol d o) fullShare Y)
abbrev rU {n : ℕ} (c : Dev nD) (m : Memref sig .tc .vmem ⟨3, ![n, 512, 512]⟩ .fp8e5m2) (i : Fin n) : sProp 𝕄 := iprop(∃ Y, owns (c : Thread nD τ) (rowM m i) fullShare Y)

end Cert.RingMatmul

end
-- ==== Proof.PartsA.lean ====
/-
  The kernel's start: the neighbours' meeting, the rows for the first hops, those hops, the device's own product.
-/
module

public import proofs.«01_k».proof.Proof.Walk

@[expose] public section

set_option maxRecDepth 16384

noncomputable section

namespace Cert.RingMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Release (slot)

variable {F : FTy → Type} [FloatOps F]

local notation "𝕄" => MT nD τ sig ℕ (Elt F) ℕ UU ℕ

section
variable (X : Dev nD → XT F) (Wt : Dev nD → WT F) (Sx Sw : Dev nD → S1.Idx → F .f32) (K : Dev nD × CK → ℕ) (Ks : SK → ℕ)

/-- A scalar as the kernel reads it. -/
abbrev sc (s : S1.Idx → F .f32) : F .f32 := s ((Rect.unit (s := S1) ![0] S1.size inb_S1_S1_0).point numel1_S1)

/-- Both neighbours are told that the device is there, and have told it; a scale is read. -/
theorem part1 (c : Dev nD) : ∃ v2 v13 v24,
    Part c (onArgs (k0_part1 (F := F))) ⟨c, v2, v13, v24, sc (Sx c)⟩
      iprop(Rec X Wt K Ks ∗ Ctl c (evs.drop 0) ∗ landings true c ∗ landings false c ∗ owns (c : Thread nD τ) a2 fullShare (Sx c))
      iprop(Ctl c (evs.drop 3) ∗ landings true (nxt true c) ∗ landings false (nxt false c) ∗ owns (c : Thread nD τ) a2 fullShare (Sx c)) := by
  refine ⟨?_, ?_, ?_, ?_⟩
  rotate_left 3
  refine Part.of fun Q => ?_
  iintro ⟨#HR, HC, Hl, Hl', Hs⟩ Hk
  simp only [k0_part1_eq_skeleton]
  unfold k0_part1_skel
  simp only [run, onArgs, semSignalWord, semWaitWord, smemLoad, smemLoadElt, Prog.lift, Prog.bind_op, Prog.bind_ret, Prog.pure_eq_ret, wp_deviceId]
  iapply (sgb X Wt K Ks c _ true (by revert c; decide) 0 rfl rfl rfl) $$ HR HC Hl
  iintro HC
  iapply (sgb X Wt K Ks c _ false (by revert c; decide) 1 rfl rfl rfl) $$ HR HC Hl'
  iintro HC
  iapply (wbr X Wt K Ks c 2 rfl (by decide) rfl rfl) $$ HR HC
  iintro ⟨HC, Hl, Hl'⟩
  iapply (ld_sub c) $$ Hs
  iintro Hs
  simp only [wp_ret]
  imodintro
  iapply Hk
  iframe HC Hl Hl' Hs

theorem part2 (c : Dev nD) (v2 : BitVec 32) :
    Part c (onArgs (k0_part2 (F := F)) c v2 (sc (Sx c))) ⟨scl Sx Sw c, k0_pay3 (xP (X c) (rot true 2 c))⟩
      iprop(owns (c : Thread nD τ) a3 fullShare (Sw c) ∗ xO X c ∗ rU c a13 0)
      iprop(owns (c : Thread nD τ) a3 fullShare (Sw c) ∗ xO X c ∗ R13 X c 0) := by
  intro α Q k
  iintro ⟨Hs, Hx, %Y, Hr⟩ Hk
  simp only [k0_part2_eq_skeleton]
  unfold k0_part2_skel
  simp only [smemLoad, smemLoadElt, Prog.lift, Prog.bind_op, Prog.bind_ret, Prog.pure_eq_ret]
  iapply (ld_sub c) $$ Hs
  iintro Hs
  iapply (ldx X c (rot true 1 c) (by revert c; decide)) $$ Hx
  iintro Hx
  iapply (put c) $$ Hr
  iintro Hr
  iapply (ldx X c (rot true 2 c) (by revert c; decide)) $$ Hx
  iintro Hx
  iapply Hk
  ihave Hr := (row_store X a13 true c 0 (rot true 1 c) rfl (k0_pay2 (xP (X c) (rot true 1 c))) rfl) $$ Hr
  iframe Hs Hx Hr

theorem part3 (c : Dev nD) (v2 : BitVec 32) :
    Part c (onArgs (k0_part3 (F := F)) c v2 (k0_pay3 (xP (X c) (rot true 2 c)))) (k0_pay6 (xP (X c) (rot true 4 c)))
      iprop(xO X c ∗ rU c a13 1 ∗ rU c a13 2) iprop(xO X c ∗ R13 X c 1 ∗ R13 X c 2) := by
  intro α Q k
  iintro ⟨Hx, ⟨%Y, Hr⟩, %Y', Hr'⟩ Hk
  simp only [k0_part3_eq_skeleton]
  unfold k0_part3_skel
  simp only [Prog.lift, Prog.bind_op, Prog.bind_ret, Prog.pure_eq_ret]
  iapply (put c) $$ Hr
  iintro Hr
  iapply (ldx X c (rot true 3 c) (by revert c; decide)) $$ Hx
  iintro Hx
  iapply (put c) $$ Hr'
  iintro Hr'
  iapply (ldx X c (rot true 4 c) (by revert c; decide)) $$ Hx
  iintro Hx
  iapply Hk
  ihave Hr := (row_store X a13 true c 1 (rot true 2 c) rfl (k0_pay4 (k0_pay3 (xP (X c) (rot true 2 c)))) rfl) $$ Hr
  ihave Hr' := (row_store X a13 true c 2 (rot true 3 c) rfl (k0_pay5 (xP (X c) (rot true 3 c))) rfl) $$ Hr'
  iframe Hx Hr Hr'

theorem part4 (c : Dev nD) (v2 : BitVec 32) :
    Part c (onArgs (k0_part4 (F := F)) c v2 (k0_pay6 (xP (X c) (rot true 4 c)))) ⟨⟩
      iprop(xO X c ∗ rU c a13 3 ∗ rU c a14 0) iprop(xO X c ∗ R13 X c 3 ∗ R14 X c 0) := by
  intro α Q k
  iintro ⟨Hx, ⟨%Y, Hr⟩, %Y', Hr'⟩ Hk
  simp only [k0_part4_eq_skeleton]
  unfold k0_part4_skel
  simp only [Prog.lift, Prog.bind_op, Prog.bind_ret, Prog.pure_eq_ret]
  iapply (put c) $$ Hr
  iintro Hr
  iapply (ldx X c (rot false 1 c) (by revert c; decide)) $$ Hx
  iintro Hx
  iapply (put c) $$ Hr'
  iintro Hr'
  iapply Hk
  ihave Hr := (row_store X a13 true c 3 (rot true 4 c) rfl (k0_pay7 (k0_pay6 (xP (X c) (rot true 4 c)))) rfl) $$ Hr
  ihave Hr' := (row_store X a14 false c 0 (rot false 1 c) rfl (k0_pay8 (xP (X c) (rot false 1 c))) rfl) $$ Hr'
  iframe Hx Hr Hr'

theorem part5 (c : Dev nD) (v2 v24 : BitVec 32) :
    Part c (onArgs (k0_part5 (F := F)) c v2 v24) ⟨⟩
      iprop(Rec X Wt K Ks ∗ Ctl c (evs.drop 3) ∗ xO X c ∗ rU c a14 1 ∗ rU c a14 2 ∗ srcPts X Wt (trW true 0) c ∗ landing (trW true 0) (nxt true c))
      iprop(Ctl c (evs.drop 4) ∗ xO X c ∗ R14 X c 1 ∗ R14 X c 2 ∗ sent (trW true 0) c) := by
  intro α Q k
  iintro ⟨#HR, HC, Hx, ⟨%Y, Hr⟩, ⟨%Y', Hr'⟩, Hs, Hl⟩ Hk
  simp only [k0_part5_eq_skeleton]
  unfold k0_part5_skel
  simp only [Prog.lift, Prog.bind_op, Prog.bind_ret, Prog.pure_eq_ret]
  iapply (ldx X c (rot false 2 c) (by revert c; decide)) $$ Hx
  iintro Hx
  iapply (put c) $$ Hr
  iintro Hr
  iapply (ldx X c (rot false 3 c) (by revert c; decide)) $$ Hx
  iintro Hx
  iapply (put c) $$ Hr'
  iintro Hr'
  iapply (snd X Wt K Ks c _ (trW true 0) true rfl (by revert c; decide) 3 rfl rfl rfl rfl rfl) $$ HR HC Hs Hl
  iintro ⟨HC, Hs⟩
  iapply Hk
  ihave Hr := (row_store X a14 false c 1 (rot false 2 c) rfl (k0_pay9 (xP (X c) (rot false 2 c))) rfl) $$ Hr
  ihave Hr' := (row_store X a14 false c 2 (rot false 3 c) rfl (k0_pay10 (xP (X c) (rot false 3 c))) rfl) $$ Hr'
  iframe HC Hx Hr Hr' Hs

theorem part6 (c : Dev nD) (v2 v13 v24 : BitVec 32) :
    Part c (onArgs (k0_part6 (F := F)) c v2 v13 v24) ⟨⟩
      iprop(Rec X Wt K Ks ∗ Ctl c (evs.drop 4) ∗ srcPts X Wt (trXc 0) c ∗ landing (trXc 0) (nxt true c)
        ∗ srcPts X Wt (trW false 0) c ∗ landing (trW false 0) (nxt false c) ∗ srcPts X Wt (trXa 0) c ∗ landing (trXa 0) (nxt false c))
      iprop(Ctl c (evs.drop 7) ∗ sent (trXc 0) c ∗ sent (trW false 0) c ∗ sent (trXa 0) c) := by
  intro α Q k
  iintro ⟨#HR, HC, Hs1, Hl1, Hs2, Hl2, Hs3, Hl3⟩ Hk
  simp only [k0_part6_eq_skeleton]
  unfold k0_part6_skel
  simp only [Prog.lift, Prog.bind_op, Prog.bind_ret, Prog.pure_eq_ret]
  iapply (snd X Wt K Ks c _ (trXc 0) true rfl (by revert c; decide) 4 rfl rfl rfl rfl rfl) $$ HR HC Hs1 Hl1
  iintro ⟨HC, Hs1⟩
  iapply (snd X Wt K Ks c _ (trW false 0) false rfl (by revert c; decide) 5 rfl rfl rfl rfl rfl) $$ HR HC Hs2 Hl2
  iintro ⟨HC, Hs2⟩
  iapply (snd X Wt K Ks c _ (trXa 0) false rfl (by revert c; decide) 6 rfl rfl rfl rfl rfl) $$ HR HC Hs3 Hl3
  iintro ⟨HC, Hs3⟩
  iapply Hk
  iframe HC Hs1 Hs2 Hs3

theorem part7 (c : Dev nD) (v13 : BitVec 32) :
    Part c (onArgs (k0_part7 (F := F)) c v13) ⟨⟩
      iprop(xO X c ∗ wO Wt c ∗ ocU c true 0 ∗ ocU c true 1 ∗ ocU c false 0 ∗ ocU c false 1)
      iprop(xO X c ∗ wO Wt c ∗ oc X Wt c true 0 0 ∗ oc X Wt c true 1 0 ∗ oc X Wt c false 0 0 ∗ oc X Wt c false 1 0) := by
  intro α Q k
  iintro ⟨Hx, Hw, ⟨%Y0, H0⟩, ⟨%Y1, H1⟩, ⟨%Y2, H2⟩, %Y3, H3⟩ Hk
  simp only [k0_part7_eq_skeleton]
  unfold k0_part7_skel
  simp only [Prog.lift, Prog.bind_op, Prog.bind_ret, Prog.pure_eq_ret]
  iapply (ldx X c c (by revert c; decide)) $$ Hx
  iintro Hx
  iapply (ld_sub c) $$ Hw
  iintro Hw
  iapply (put c) $$ H0
  iintro H0
  iapply (ld_sub c) $$ Hw
  iintro Hw
  iapply (put c) $$ H1
  iintro H1
  iapply (ld_sub c) $$ Hw
  iintro Hw
  iapply (put c) $$ H2
  iintro H2
  iapply (ld_sub c) $$ Hw
  iintro Hw
  iapply (put c) $$ H3
  iintro H3
  iapply Hk
  iframe Hx Hw H0 H1 H2 H3

end

end Cert.RingMatmul

end
-- ==== Proof.PartsB.lean ====
/-
  The first rounds of the ring: the hops up to the fourth, and the products of the first three tiles.
-/
module

public import proofs.«01_k».proof.Proof.Walk

@[expose] public section

set_option maxRecDepth 16384

noncomputable section

namespace Cert.RingMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Release (slot)

variable {F : FTy → Type} [FloatOps F]

local notation "𝕄" => MT nD τ sig ℕ (Elt F) ℕ UU ℕ

section
variable (X : Dev nD → XT F) (Wt : Dev nD → WT F) (Sx Sw : Dev nD → S1.Idx → F .f32) (K : Dev nD × CK → ℕ) (Ks : SK → ℕ)

/-- The first weights and rows from the left come, and go on to the right. -/
theorem part8 (c : Dev nD) (v13 v24 : BitVec 32) :
    Part c (onArgs (k0_part8 (F := F)) c v13 v24) ⟨⟩
      iprop(Rec X Wt K Ks ∗ Ctl c (evs.drop 7) ∗ landing (trW true 1) (nxt true c) ∗ landing (trXc 1) (nxt true c))
      iprop(Ctl c (evs.drop 11) ∗ Wr X Wt true 0 c ∗ sent (trW true 1) c ∗ Hd X (.inl 0) c ∗ sent (trXc 1) c) := by
  intro α Q k
  iintro ⟨#HR, HC, Hl1, Hl2⟩ Hk
  simp only [k0_part8_eq_skeleton]
  unfold k0_part8_skel
  simp only [semSignalWord, semWaitWord, Prog.lift, Prog.bind_op, Prog.bind_ret, Prog.pure_eq_ret]
  iapply (rcvW X Wt K Ks c true 0 1 rfl 7 rfl (by decide) rfl rfl) $$ HR HC
  iintro ⟨HC, Hs, Hw⟩
  iapply (snd X Wt K Ks c _ (trW true 1) true rfl (by revert c; decide) 8 rfl rfl rfl rfl rfl) $$ HR HC Hs Hl1
  iintro ⟨HC, Hs1⟩
  iapply (rcv X Wt K Ks c (trXc 0) (xhop_c0 X Wt c) 9 rfl (by decide) rfl rfl) $$ HR HC
  iintro ⟨HC, Hh, Hs⟩
  iapply (snd X Wt K Ks c _ (trXc 1) true rfl (by revert c; decide) 10 rfl rfl rfl rfl rfl) $$ HR HC Hs Hl2
  iintro ⟨HC, Hs2⟩
  iapply Hk
  iframe HC Hw Hs1 Hh Hs2

/-- The same from the right. -/
theorem part9 (c : Dev nD) (v13 v24 : BitVec 32) :
    Part c (onArgs (k0_part9 (F := F)) c v13 v24) ⟨Scalar.muli v13 1#32, 0#32⟩
      iprop(Rec X Wt K Ks ∗ Ctl c (evs.drop 11) ∗ landing (trW false 1) (nxt false c))
      iprop(Ctl c (evs.drop 14) ∗ Wr X Wt false 0 c ∗ sent (trW false 1) c ∗ Hd X (.inr 0) c ∗ srcPts X Wt (trXa 1) c) := by
  intro α Q k
  iintro ⟨#HR, HC, Hl1⟩ Hk
  simp only [k0_part9_eq_skeleton]
  unfold k0_part9_skel
  simp only [semSignalWord, semWaitWord, Prog.lift, Prog.bind_op, Prog.bind_ret, Prog.pure_eq_ret]
  iapply (rcvW X Wt K Ks c false 0 1 rfl 11 rfl (by decide) rfl rfl) $$ HR HC
  iintro ⟨HC, Hs, Hw⟩
  iapply (snd X Wt K Ks c _ (trW false 1) false rfl (by revert c; decide) 12 rfl rfl rfl rfl rfl) $$ HR HC Hs Hl1
  iintro ⟨HC, Hs1⟩
  iapply (rcv X Wt K Ks c (trXa 0) (xhop_a0 X Wt c) 13 rfl (by decide) rfl rfl) $$ HR HC
  iintro ⟨HC, Hh, Hs⟩
  iapply Hk
  iframe HC Hw Hs1 Hh Hs

/-- The products with the first tiles. -/
theorem part10 (c : Dev nD) (v0 v1 : BitVec 32) :
    Part c (onArgs (k0_part10 (F := F)) c v0 v1) ⟨k0_pay20 (hdC X (.inr 0) c), k0_pay21 (w3 Wt false 0 c), k0_pay22 (w3 Wt false 0 c), constant S512x2048 .f32 0x00000000#32⟩
      iprop(Rec X Wt K Ks ∗ Ctl c (evs.drop 14) ∗ srcPts X Wt (trXa 1) c ∗ landing (trXa 1) (nxt false c) ∗ Hd X (.inl 0) c ∗ Wr X Wt true 0 c ∗ Hd X (.inr 0) c ∗ Wr X Wt false 0 c ∗ oc X Wt c true 0 0 ∗ oc X Wt c true 1 0)
      iprop(Ctl c (evs.drop 15) ∗ sent (trXa 1) c ∗ Hd X (.inl 0) c ∗ Wr X Wt true 0 c ∗ Hd X (.inr 0) c ∗ Wr X Wt false 0 c ∗ oc X Wt c true 0 1 ∗ oc X Wt c true 1 1) := by
  intro α Q k
  iintro ⟨#HR, HC, Hs, Hl, Hx, Hw, Hx', Hw', Ho0, Ho1⟩ Hk
  simp only [k0_part10_eq_skeleton]
  unfold k0_part10_skel
  simp only [semSignalWord, semWaitWord, Prog.lift, Prog.bind_op, Prog.bind_ret, Prog.pure_eq_ret]
  iapply (snd X Wt K Ks c _ (trXa 1) false rfl (by revert c; decide) 14 rfl rfl rfl rfl rfl) $$ HR HC Hs Hl
  iintro ⟨HC, Hs⟩
  iapply (ldu c) $$ Hx
  iintro Hx
  iapply (ldW X Wt c true 0 0 rfl) $$ Hw
  iintro Hw
  iapply (upd c true 0) $$ Ho0
  iintro Ho0
  iapply (upd c true 1) $$ Ho1
  iintro Ho1
  iapply (ldu c) $$ Hx'
  iintro Hx'
  iapply (ldW X Wt c false 0 0 rfl) $$ Hw'
  iintro Hw'
  iapply Hk
  iframe HC Hs Hx Hw Hx' Hw' Ho0 Ho1

theorem part11 (c : Dev nD) (v13 v24 : BitVec 32) :
    Part c (onArgs (k0_part11 (F := F)) v13 v24 (k0_pay20 (hdC X (.inr 0) c)) (k0_pay21 (w3 Wt false 0 c)) (k0_pay22 (w3 Wt false 0 c)) (constant S512x2048 .f32 0x00000000#32)) ⟨⟩
      iprop(Rec X Wt K Ks ∗ Ctl c (evs.drop 15) ∗ oc X Wt c false 0 0 ∗ oc X Wt c false 1 0)
      iprop(Ctl c (evs.drop 16) ∗ oc X Wt c false 0 1 ∗ oc X Wt c false 1 1 ∗ srcPts X Wt (trW true 2) c ∗ Wr X Wt true 1 c) := by
  intro α Q k
  iintro ⟨#HR, HC, Ho0, Ho1⟩ Hk
  simp only [k0_part11_eq_skeleton]
  unfold k0_part11_skel
  simp only [semSignalWord, semWaitWord, Prog.lift, Prog.bind_op, Prog.bind_ret, Prog.pure_eq_ret]
  iapply (upd c false 0) $$ Ho0
  iintro Ho0
  iapply (upd c false 1) $$ Ho1
  iintro Ho1
  iapply (rcvW X Wt K Ks c true 1 2 rfl 15 rfl (by decide) rfl rfl) $$ HR HC
  iintro ⟨HC, Hs, Hw⟩
  iapply Hk
  iframe HC Ho0 Ho1 Hs Hw

/-- The second hops. -/
theorem part12 (c : Dev nD) (v13 v24 : BitVec 32) :
    Part c (onArgs (k0_part12 (F := F)) c v13 v24) ⟨⟩
      iprop(Rec X Wt K Ks ∗ Ctl c (evs.drop 16) ∗ srcPts X Wt (trW true 2) c ∗ landing (trW true 2) (nxt true c) ∗ landing (trXc 2) (nxt true c))
      iprop(Ctl c (evs.drop 20) ∗ sent (trW true 2) c ∗ Hd X (.inl 1) c ∗ sent (trXc 2) c ∗ srcPts X Wt (trW false 2) c ∗ Wr X Wt false 1 c) := by
  intro α Q k
  iintro ⟨#HR, HC, Hs, Hl, Hl'⟩ Hk
  simp only [k0_part12_eq_skeleton]
  unfold k0_part12_skel
  simp only [semSignalWord, semWaitWord, Prog.lift, Prog.bind_op, Prog.bind_ret, Prog.pure_eq_ret]
  iapply (snd X Wt K Ks c _ (trW true 2) true rfl (by revert c; decide) 16 rfl rfl rfl rfl rfl) $$ HR HC Hs Hl
  iintro ⟨HC, Hs⟩
  iapply (rcv X Wt K Ks c (trXc 1) (xhop_c1 X Wt c) 17 rfl (by decide) rfl rfl) $$ HR HC
  iintro ⟨HC, Hh, Hs'⟩
  iapply (snd X Wt K Ks c _ (trXc 2) true rfl (by revert c; decide) 18 rfl rfl rfl rfl rfl) $$ HR HC Hs' Hl'
  iintro ⟨HC, Hs'⟩
  iapply (rcvW X Wt K Ks c false 1 2 rfl 19 rfl (by decide) rfl rfl) $$ HR HC
  iintro ⟨HC, Hs2, Hw⟩
  iapply Hk
  iframe HC Hs Hh Hs' Hs2 Hw

theorem part13 (c : Dev nD) (v13 v24 : BitVec 32) :
    Part c (onArgs (k0_part13 (F := F)) c v13 v24) (k0_pay25 (hdC X (.inl 1) c))
      iprop(Rec X Wt K Ks ∗ Ctl c (evs.drop 20) ∗ srcPts X Wt (trW false 2) c ∗ landing (trW false 2) (nxt false c) ∗ landing (trXa 2) (nxt false c) ∗ Hd X (.inl 1) c)
      iprop(Ctl c (evs.drop 23) ∗ sent (trW false 2) c ∗ Hd X (.inr 1) c ∗ sent (trXa 2) c ∗ Hd X (.inl 1) c) := by
  intro α Q k
  iintro ⟨#HR, HC, Hs, Hl, Hl', Hx⟩ Hk
  simp only [k0_part13_eq_skeleton]
  unfold k0_part13_skel
  simp only [semSignalWord, semWaitWord, Prog.lift, Prog.bind_op, Prog.bind_ret, Prog.pure_eq_ret]
  iapply (snd X Wt K Ks c _ (trW false 2) false rfl (by revert c; decide) 20 rfl rfl rfl rfl rfl) $$ HR HC Hs Hl
  iintro ⟨HC, Hs⟩
  iapply (rcv X Wt K Ks c (trXa 1) (xhop_a1 X Wt c) 21 rfl (by decide) rfl rfl) $$ HR HC
  iintro ⟨HC, Hh, Hs'⟩
  iapply (snd X Wt K Ks c _ (trXa 2) false rfl (by revert c; decide) 22 rfl rfl rfl rfl rfl) $$ HR HC Hs' Hl'
  iintro ⟨HC, Hs'⟩
  iapply (ldu c) $$ Hx
  iintro Hx
  iapply Hk
  iframe HC Hs Hh Hs' Hx

/-- The products with the second tiles. -/
theorem part14 (c : Dev nD) :
    Part c (onArgs (k0_part14 (F := F)) (k0_pay25 (hdC X (.inl 1) c))) (k0_pay32 (hdC X (.inr 1) c) (w3 Wt false 1 c) (acc X Wt c false 1 1))
      iprop(Wr X Wt true 1 c ∗ Hd X (.inr 1) c ∗ Wr X Wt false 1 c ∗ oc X Wt c true 0 1 ∗ oc X Wt c true 1 1 ∗ oc X Wt c false 0 1 ∗ oc X Wt c false 1 1)
      iprop(Wr X Wt true 1 c ∗ Hd X (.inr 1) c ∗ Wr X Wt false 1 c ∗ oc X Wt c true 0 2 ∗ oc X Wt c true 1 2 ∗ oc X Wt c false 0 2 ∗ oc X Wt c false 1 1) := by
  intro α Q k
  iintro ⟨Hw, Hx, Hw', Ho0, Ho1, Ho2, Ho3⟩ Hk
  simp only [k0_part14_eq_skeleton]
  unfold k0_part14_skel
  simp only [semSignalWord, semWaitWord, Prog.lift, Prog.bind_op, Prog.bind_ret, Prog.pure_eq_ret]
  iapply (ldW X Wt c true 1 1 rfl) $$ Hw
  iintro Hw
  iapply (upd c true 0) $$ Ho0
  iintro Ho0
  iapply (upd c true 1) $$ Ho1
  iintro Ho1
  iapply (ldu c) $$ Hx
  iintro Hx
  iapply (ldW X Wt c false 1 1 rfl) $$ Hw'
  iintro Hw'
  iapply (upd c false 0) $$ Ho2
  iintro Ho2
  iapply (ldu c) $$ Ho3
  iintro Ho3
  iapply Hk
  iframe Hw Hx Hw' Ho0 Ho1 Ho2 Ho3

/-- The third hops. -/
theorem part15 (c : Dev nD) (v13 v24 : BitVec 32) :
    Part c (onArgs (k0_part15 (F := F)) c v13 v24 (k0_pay32 (hdC X (.inr 1) c) (w3 Wt false 1 c) (acc X Wt c false 1 1))) ⟨⟩
      iprop(Rec X Wt K Ks ∗ Ctl c (evs.drop 23) ∗ oc X Wt c false 1 1 ∗ landing (trW true 3) (nxt true c))
      iprop(Ctl c (evs.drop 26) ∗ oc X Wt c false 1 2 ∗ Wr X Wt true 2 c ∗ sent (trW true 3) c ∗ Hd X (.inl 2) c ∗ srcPts X Wt (trXc 3) c) := by
  intro α Q k
  iintro ⟨#HR, HC, Ho, Hl⟩ Hk
  simp only [k0_part15_eq_skeleton]
  unfold k0_part15_skel
  simp only [semSignalWord, semWaitWord, Prog.lift, Prog.bind_op, Prog.bind_ret, Prog.pure_eq_ret]
  iapply (put c) $$ Ho
  iintro Ho
  iapply (rcvW X Wt K Ks c true 2 3 rfl 23 rfl (by decide) rfl rfl) $$ HR HC
  iintro ⟨HC, Hs, Hw⟩
  iapply (snd X Wt K Ks c _ (trW true 3) true rfl (by revert c; decide) 24 rfl rfl rfl rfl rfl) $$ HR HC Hs Hl
  iintro ⟨HC, Hs⟩
  iapply (rcv X Wt K Ks c (trXc 2) (xhop_c2 X Wt c) 25 rfl (by decide) rfl rfl) $$ HR HC
  iintro ⟨HC, Hh, Hs'⟩
  iapply Hk
  iframe HC Ho Hw Hs Hh Hs'

theorem part16 (c : Dev nD) (v13 v24 : BitVec 32) :
    Part c (onArgs (k0_part16 (F := F)) c v13 v24) ⟨⟩
      iprop(Rec X Wt K Ks ∗ Ctl c (evs.drop 26) ∗ srcPts X Wt (trXc 3) c ∗ landing (trXc 3) (nxt true c) ∗ landing (trW false 3) (nxt false c))
      iprop(Ctl c (evs.drop 29) ∗ sent (trXc 3) c ∗ Wr X Wt false 2 c ∗ sent (trW false 3) c) := by
  intro α Q k
  iintro ⟨#HR, HC, Hs, Hl, Hl'⟩ Hk
  simp only [k0_part16_eq_skeleton]
  unfold k0_part16_skel
  simp only [semSignalWord, semWaitWord, Prog.lift, Prog.bind_op, Prog.bind_ret, Prog.pure_eq_ret]
  iapply (snd X Wt K Ks c _ (trXc 3) true rfl (by revert c; decide) 26 rfl rfl rfl rfl rfl) $$ HR HC Hs Hl
  iintro ⟨HC, Hs⟩
  iapply (rcvW X Wt K Ks c false 2 3 rfl 27 rfl (by decide) rfl rfl) $$ HR HC
  iintro ⟨HC, Hs', Hw⟩
  iapply (snd X Wt K Ks c _ (trW false 3) false rfl (by revert c; decide) 28 rfl rfl rfl rfl rfl) $$ HR HC Hs' Hl'
  iintro ⟨HC, Hs'⟩
  iapply Hk
  iframe HC Hs Hw Hs'

/-- The products with the third tiles. -/
theorem part17 (c : Dev nD) (v24 : BitVec 32) :
    Part c (onArgs (k0_part17 (F := F)) v24) ⟨k0_pay37 (hdC X (.inr 2) c), k0_pay38 (w3 Wt false 2 c), k0_pay39 (w3 Wt false 2 c)⟩
      iprop(Rec X Wt K Ks ∗ Ctl c (evs.drop 29) ∗ Hd X (.inl 2) c ∗ Wr X Wt true 2 c ∗ Wr X Wt false 2 c ∗ oc X Wt c true 0 2 ∗ oc X Wt c true 1 2)
      iprop(Ctl c (evs.drop 30) ∗ Hd X (.inl 2) c ∗ Wr X Wt true 2 c ∗ Hd X (.inr 2) c ∗ Wr X Wt false 2 c ∗ oc X Wt c true 0 3 ∗ oc X Wt c true 1 3) := by
  intro α Q k
  iintro ⟨#HR, HC, Hx, Hw, Hw', Ho0, Ho1⟩ Hk
  simp only [k0_part17_eq_skeleton]
  unfold k0_part17_skel
  simp only [semSignalWord, semWaitWord, Prog.lift, Prog.bind_op, Prog.bind_ret, Prog.pure_eq_ret]
  iapply (rcv X Wt K Ks c (trXa 2) (P := Hd X (.inr 2) c) .rfl 29 rfl (by decide) rfl rfl) $$ HR HC
  iintro ⟨HC, Hx'⟩
  iapply (ldu c) $$ Hx
  iintro Hx
  iapply (ldW X Wt c true 2 2 rfl) $$ Hw
  iintro Hw
  iapply (upd c true 0) $$ Ho0
  iintro Ho0
  iapply (upd c true 1) $$ Ho1
  iintro Ho1
  iapply (ldu c) $$ Hx'
  iintro Hx'
  iapply (ldW X Wt c false 2 2 rfl) $$ Hw'
  iintro Hw'
  iapply Hk
  iframe HC Hx Hw Hx' Hw' Ho0 Ho1

/-- The first slot is given back. -/
theorem part18 (c : Dev nD) (v13 : BitVec 32) :
    Part c (onArgs (k0_part18 (F := F)) c v13 (k0_pay37 (hdC X (.inr 2) c)) (k0_pay38 (w3 Wt false 2 c)) (k0_pay39 (w3 Wt false 2 c))) ⟨⟩
      iprop(Rec X Wt K Ks ∗ Ctl c (evs.drop 30) ∗ oc X Wt c false 0 2 ∗ oc X Wt c false 1 2 ∗ sent (trW true 1) c ∗ Wr X Wt true 0 c ∗ freed true 0 c)
      iprop(Ctl c (evs.drop 32) ∗ oc X Wt c false 0 3 ∗ oc X Wt c false 1 3 ∗ freed true 1 c) := by
  intro α Q k
  iintro ⟨#HR, HC, Ho0, Ho1, Hs, Hw, Hf⟩ Hk
  simp only [k0_part18_eq_skeleton]
  unfold k0_part18_skel
  simp only [semSignalWord, semWaitWord, Prog.lift, Prog.bind_op, Prog.bind_ret, Prog.pure_eq_ret]
  iapply (upd c false 0) $$ Ho0
  iintro Ho0
  iapply (upd c false 1) $$ Ho1
  iintro Ho1
  iapply (wsnW X Wt K Ks c true 0 1 rfl 30 rfl (by decide) rfl rfl) $$ HR HC Hs Hw
  iintro ⟨HC, Hl⟩
  iapply (sgn X Wt K Ks c _ true 0 (trW true 0) (fun _ => rfl) 0 1 rfl rfl (by revert c; decide) 31 rfl rfl rfl) $$ HR HC Hl Hf
  iintro ⟨HC, Hf⟩
  iapply Hk
  iframe HC Ho0 Ho1 Hf

end

end Cert.RingMatmul

end
-- ==== Proof.PartsC.lean ====
/-
  The later rounds: slots are given back and filled again, up to the product of the sixth tile.
-/
module

public import proofs.«01_k».proof.Proof.Walk

@[expose] public section

set_option maxRecDepth 16384

noncomputable section

namespace Cert.RingMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Release (slot)

variable {F : FTy → Type} [FloatOps F]

local notation "𝕄" => MT nD τ sig ℕ (Elt F) ℕ UU ℕ

section
variable (X : Dev nD → XT F) (Wt : Dev nD → WT F) (Sx Sw : Dev nD → S1.Idx → F .f32) (K : Dev nD × CK → ℕ) (Ks : SK → ℕ)

/-- The fourth weights come, and go on into the slot that the neighbour has given back. -/
theorem part19 (c : Dev nD) (v13 v24 : BitVec 32) :
    Part c (onArgs (k0_part19 (F := F)) c v13 v24) ⟨⟩
      iprop(Rec X Wt K Ks ∗ Ctl c (evs.drop 32) ∗ sent (trW false 1) c ∗ Wr X Wt false 0 c ∗ freed false 0 c ∗ crSt c true 0)
      iprop(Ctl c (evs.drop 37) ∗ freed false 1 c ∗ crSt c true 1 ∗ Wr X Wt true 3 c ∗ sent (trW true 4) c) := by
  intro α Q k
  iintro ⟨#HR, HC, Hs, Hw, Hf, Hc⟩ Hk
  simp only [k0_part19_eq_skeleton]
  unfold k0_part19_skel
  simp only [semSignalWord, semWaitWord, Prog.lift, Prog.bind_op, Prog.bind_ret, Prog.pure_eq_ret]
  iapply (wsnW X Wt K Ks c false 0 1 rfl 32 rfl (by decide) rfl rfl) $$ HR HC Hs Hw
  iintro ⟨HC, Hl⟩
  iapply (sgn X Wt K Ks c _ false 0 (trW false 0) (fun _ => rfl) 0 1 rfl rfl (by revert c; decide) 33 rfl rfl rfl) $$ HR HC Hl Hf
  iintro ⟨HC, Hf⟩
  iapply (rcvW X Wt K Ks c true 3 4 rfl 34 rfl (by decide) rfl rfl) $$ HR HC
  iintro ⟨HC, Hs, Hw⟩
  iapply (wcr X Wt K Ks c true 0 (trW true 4) (fun _ => rfl) 0 1 rfl rfl rfl 35 rfl (by decide) rfl rfl) $$ HR HC Hc
  iintro ⟨HC, Hc, Hl⟩
  iapply (snd X Wt K Ks c _ (trW true 4) true rfl (by revert c; decide) 36 rfl rfl rfl rfl rfl) $$ HR HC Hs Hl
  iintro ⟨HC, Hs⟩
  iapply Hk
  iframe HC Hf Hc Hw Hs

theorem part20 (c : Dev nD) (v13 v24 : BitVec 32) :
    Part c (onArgs (k0_part20 (F := F)) c v13 v24) ⟨k0_pay42 (hdC X (.inl 3) c), k0_pay43 (w3 Wt true 3 c)⟩
      iprop(Rec X Wt K Ks ∗ Ctl c (evs.drop 37) ∗ crSt c false 0 ∗ Wr X Wt true 3 c)
      iprop(Ctl c (evs.drop 41) ∗ Hd X (.inl 3) c ∗ Wr X Wt false 3 c ∗ crSt c false 1 ∗ sent (trW false 4) c ∗ Wr X Wt true 3 c) := by
  intro α Q k
  iintro ⟨#HR, HC, Hc, Hw⟩ Hk
  simp only [k0_part20_eq_skeleton]
  unfold k0_part20_skel
  simp only [semSignalWord, semWaitWord, Prog.lift, Prog.bind_op, Prog.bind_ret, Prog.pure_eq_ret]
  iapply (rcv X Wt K Ks c (trXc 3) (P := Hd X (.inl 3) c) .rfl 37 rfl (by decide) rfl rfl) $$ HR HC
  iintro ⟨HC, Hx⟩
  iapply (rcvW X Wt K Ks c false 3 4 rfl 38 rfl (by decide) rfl rfl) $$ HR HC
  iintro ⟨HC, Hs, Hw'⟩
  iapply (wcr X Wt K Ks c false 0 (trW false 4) (fun _ => rfl) 0 1 rfl rfl rfl 39 rfl (by decide) rfl rfl) $$ HR HC Hc
  iintro ⟨HC, Hc, Hl⟩
  iapply (snd X Wt K Ks c _ (trW false 4) false rfl (by revert c; decide) 40 rfl rfl rfl rfl rfl) $$ HR HC Hs Hl
  iintro ⟨HC, Hs⟩
  iapply (ldu c) $$ Hx
  iintro Hx
  iapply (ldW X Wt c true 3 3 rfl) $$ Hw
  iintro Hw
  iapply Hk
  iframe HC Hx Hw' Hc Hs Hw

/-- The products with the fourth tiles. -/
theorem part21 (c : Dev nD) :
    Part c (onArgs (k0_part21 (F := F)) (k0_pay42 (hdC X (.inl 3) c)) (k0_pay43 (w3 Wt true 3 c))) ⟨⟩
      iprop(Hd X (.inl 3) c ∗ Wr X Wt false 3 c ∗ oc X Wt c true 0 3 ∗ oc X Wt c true 1 3 ∗ oc X Wt c false 0 3 ∗ oc X Wt c false 1 3)
      iprop(Hd X (.inl 3) c ∗ Wr X Wt false 3 c ∗ oc X Wt c true 0 4 ∗ oc X Wt c true 1 4 ∗ oc X Wt c false 0 4 ∗ oc X Wt c false 1 4) := by
  intro α Q k
  iintro ⟨Hx, Hw, Ho0, Ho1, Ho2, Ho3⟩ Hk
  simp only [k0_part21_eq_skeleton]
  unfold k0_part21_skel
  simp only [semSignalWord, semWaitWord, Prog.lift, Prog.bind_op, Prog.bind_ret, Prog.pure_eq_ret]
  iapply (upd c true 0) $$ Ho0
  iintro Ho0
  iapply (upd c true 1) $$ Ho1
  iintro Ho1
  iapply (ldu c) $$ Hx
  iintro Hx
  iapply (ldW X Wt c false 3 3 rfl) $$ Hw
  iintro Hw
  iapply (upd c false 0) $$ Ho2
  iintro Ho2
  iapply (upd c false 1) $$ Ho3
  iintro Ho3
  iapply Hk
  iframe Hx Hw Ho0 Ho1 Ho2 Ho3

/-- The second slots are given back. -/
theorem part22 (c : Dev nD) (v13 v24 : BitVec 32) :
    Part c (onArgs (k0_part22 (F := F)) c v13 v24) ⟨⟩
      iprop(Rec X Wt K Ks ∗ Ctl c (evs.drop 41) ∗ sent (trW true 2) c ∗ Wr X Wt true 1 c ∗ freed true 1 c ∗ sent (trW false 2) c ∗ Wr X Wt false 1 c ∗ freed false 1 c)
      iprop(Ctl c (evs.drop 45) ∗ freed true 2 c ∗ freed false 2 c) := by
  intro α Q k
  iintro ⟨#HR, HC, Hs, Hw, Hf, Hs', Hw', Hf'⟩ Hk
  simp only [k0_part22_eq_skeleton]
  unfold k0_part22_skel
  simp only [semSignalWord, semWaitWord, Prog.lift, Prog.bind_op, Prog.bind_ret, Prog.pure_eq_ret]
  iapply (wsnW X Wt K Ks c true 1 2 rfl 41 rfl (by decide) rfl rfl) $$ HR HC Hs Hw
  iintro ⟨HC, Hl⟩
  iapply (sgn X Wt K Ks c _ true 1 (trW true 1) (fun _ => rfl) 1 2 rfl rfl (by revert c; decide) 42 rfl rfl rfl) $$ HR HC Hl Hf
  iintro ⟨HC, Hf⟩
  iapply (wsnW X Wt K Ks c false 1 2 rfl 43 rfl (by decide) rfl rfl) $$ HR HC Hs' Hw'
  iintro ⟨HC, Hl⟩
  iapply (sgn X Wt K Ks c _ false 1 (trW false 1) (fun _ => rfl) 1 2 rfl rfl (by revert c; decide) 44 rfl rfl rfl) $$ HR HC Hl Hf'
  iintro ⟨HC, Hf'⟩
  iapply Hk
  iframe HC Hf Hf'

/-- The fifth weights. -/
theorem part23 (c : Dev nD) (v13 v24 : BitVec 32) :
    Part c (onArgs (k0_part23 (F := F)) c v13 v24) ⟨⟩
      iprop(Rec X Wt K Ks ∗ Ctl c (evs.drop 45) ∗ crSt c true 1 ∗ crSt c false 1)
      iprop(Ctl c (evs.drop 50) ∗ Wr X Wt true 4 c ∗ crSt c true 2 ∗ sent (trW true 5) c ∗ srcPts X Wt (trW false 5) c ∗ Wr X Wt false 4 c ∗ crSt c false 2 ∗ landing (trW false 5) (nxt false c)) := by
  intro α Q k
  iintro ⟨#HR, HC, Hc, Hc'⟩ Hk
  simp only [k0_part23_eq_skeleton]
  unfold k0_part23_skel
  simp only [semSignalWord, semWaitWord, Prog.lift, Prog.bind_op, Prog.bind_ret, Prog.pure_eq_ret]
  iapply (rcvW X Wt K Ks c true 4 5 rfl 45 rfl (by decide) rfl rfl) $$ HR HC
  iintro ⟨HC, Hs, Hw⟩
  iapply (wcr X Wt K Ks c true 1 (trW true 5) (fun _ => rfl) 1 2 rfl rfl rfl 46 rfl (by decide) rfl rfl) $$ HR HC Hc
  iintro ⟨HC, Hc, Hl⟩
  iapply (snd X Wt K Ks c _ (trW true 5) true rfl (by revert c; decide) 47 rfl rfl rfl rfl rfl) $$ HR HC Hs Hl
  iintro ⟨HC, Hs⟩
  iapply (rcvW X Wt K Ks c false 4 5 rfl 48 rfl (by decide) rfl rfl) $$ HR HC
  iintro ⟨HC, Hs', Hw'⟩
  iapply (wcr X Wt K Ks c false 1 (trW false 5) (fun _ => rfl) 1 2 rfl rfl rfl 49 rfl (by decide) rfl rfl) $$ HR HC Hc'
  iintro ⟨HC, Hc', Hl⟩
  iapply Hk
  iframe HC Hw Hc Hs Hs' Hw' Hc' Hl

/-- The products with the fifth tiles. -/
theorem part24 (c : Dev nD) :
    Part c (onArgs (k0_part24 (F := F)) c) ⟨k0_pay54 (hdC X (.inl 2) c), k0_pay55 (w3 Wt false 4 c), k0_pay56 (hdC X (.inl 2) c) (w3 Wt false 4 c) (acc X Wt c false 0 4)⟩
      iprop(Rec X Wt K Ks ∗ Ctl c (evs.drop 50) ∗ srcPts X Wt (trW false 5) c ∗ landing (trW false 5) (nxt false c) ∗ Hd X (.inr 2) c ∗ Wr X Wt true 4 c ∗ Hd X (.inl 2) c ∗ Wr X Wt false 4 c ∗ oc X Wt c true 0 4 ∗ oc X Wt c true 1 4 ∗ oc X Wt c false 0 4)
      iprop(Ctl c (evs.drop 51) ∗ sent (trW false 5) c ∗ Hd X (.inr 2) c ∗ Wr X Wt true 4 c ∗ Hd X (.inl 2) c ∗ Wr X Wt false 4 c ∗ oc X Wt c true 0 5 ∗ oc X Wt c true 1 5 ∗ oc X Wt c false 0 4) := by
  intro α Q k
  iintro ⟨#HR, HC, Hs, Hl, Hx, Hw, Hx', Hw', Ho0, Ho1, Ho2⟩ Hk
  simp only [k0_part24_eq_skeleton]
  unfold k0_part24_skel
  simp only [semSignalWord, semWaitWord, Prog.lift, Prog.bind_op, Prog.bind_ret, Prog.pure_eq_ret]
  iapply (snd X Wt K Ks c _ (trW false 5) false rfl (by revert c; decide) 50 rfl rfl rfl rfl rfl) $$ HR HC Hs Hl
  iintro ⟨HC, Hs⟩
  iapply (ldu c) $$ Hx
  iintro Hx
  iapply (ldW X Wt c true 4 0 rfl) $$ Hw
  iintro Hw
  iapply (upd c true 0) $$ Ho0
  iintro Ho0
  iapply (upd c true 1) $$ Ho1
  iintro Ho1
  iapply (ldu c) $$ Hx'
  iintro Hx'
  iapply (ldW X Wt c false 4 0 rfl) $$ Hw'
  iintro Hw'
  iapply (ldu c) $$ Ho2
  iintro Ho2
  iapply Hk
  iframe HC Hs Hx Hw Hx' Hw' Ho0 Ho1 Ho2

/-- The third slots are given back. -/
theorem part25 (c : Dev nD) (v13 v24 : BitVec 32) :
    Part c (onArgs (k0_part25 (F := F)) c v13 v24 (k0_pay54 (hdC X (.inl 2) c)) (k0_pay55 (w3 Wt false 4 c)) (k0_pay56 (hdC X (.inl 2) c) (w3 Wt false 4 c) (acc X Wt c false 0 4))) ⟨⟩
      iprop(Rec X Wt K Ks ∗ Ctl c (evs.drop 51) ∗ oc X Wt c false 0 4 ∗ oc X Wt c false 1 4 ∗ sent (trW true 3) c ∗ Wr X Wt true 2 c ∗ freed true 2 c ∗ sent (trW false 3) c ∗ Wr X Wt false 2 c ∗ freed false 2 c)
      iprop(Ctl c (evs.drop 55) ∗ oc X Wt c false 0 5 ∗ oc X Wt c false 1 5 ∗ freed true 3 c ∗ freed false 3 c) := by
  intro α Q k
  iintro ⟨#HR, HC, Ho0, Ho1, Hs, Hw, Hf, Hs', Hw', Hf'⟩ Hk
  simp only [k0_part25_eq_skeleton]
  unfold k0_part25_skel
  simp only [semSignalWord, semWaitWord, Prog.lift, Prog.bind_op, Prog.bind_ret, Prog.pure_eq_ret]
  iapply (put c) $$ Ho0
  iintro Ho0
  iapply (upd c false 1) $$ Ho1
  iintro Ho1
  iapply (wsnW X Wt K Ks c true 2 3 rfl 51 rfl (by decide) rfl rfl) $$ HR HC Hs Hw
  iintro ⟨HC, Hl⟩
  iapply (sgn X Wt K Ks c _ true 2 (trW true 2) (fun _ => rfl) 2 3 rfl rfl (by revert c; decide) 52 rfl rfl rfl) $$ HR HC Hl Hf
  iintro ⟨HC, Hf⟩
  iapply (wsnW X Wt K Ks c false 2 3 rfl 53 rfl (by decide) rfl rfl) $$ HR HC Hs' Hw'
  iintro ⟨HC, Hl⟩
  iapply (sgn X Wt K Ks c _ false 2 (trW false 2) (fun _ => rfl) 2 3 rfl rfl (by revert c; decide) 54 rfl rfl rfl) $$ HR HC Hl Hf'
  iintro ⟨HC, Hf'⟩
  iapply Hk
  iframe HC Ho0 Ho1 Hf Hf'

/-- The sixth weights. -/
theorem part26 (c : Dev nD) (v13 v24 : BitVec 32) :
    Part c (onArgs (k0_part26 (F := F)) c v13 v24) ⟨⟩
      iprop(Rec X Wt K Ks ∗ Ctl c (evs.drop 55) ∗ crSt c true 2)
      iprop(Ctl c (evs.drop 58) ∗ Wr X Wt true 5 c ∗ sent (trW true 6) c) := by
  intro α Q k
  iintro ⟨#HR, HC, Hc⟩ Hk
  simp only [k0_part26_eq_skeleton]
  unfold k0_part26_skel
  simp only [semSignalWord, semWaitWord, Prog.lift, Prog.bind_op, Prog.bind_ret, Prog.pure_eq_ret]
  iapply (rcvW X Wt K Ks c true 5 6 rfl 55 rfl (by decide) rfl rfl) $$ HR HC
  iintro ⟨HC, Hs, Hw⟩
  iapply (wcr2 X Wt K Ks c true (trW true 6) (fun _ => rfl) 56 rfl (by decide) rfl rfl) $$ HR HC Hc
  iintro ⟨HC, Hl⟩
  iapply (snd X Wt K Ks c _ (trW true 6) true rfl (by revert c; decide) 57 rfl rfl rfl rfl rfl) $$ HR HC Hs Hl
  iintro ⟨HC, Hs⟩
  iapply Hk
  iframe HC Hw Hs

theorem part27 (c : Dev nD) (v13 : BitVec 32) :
    Part c (onArgs (k0_part27 (F := F)) c v13) ⟨⟩
      iprop(Rec X Wt K Ks ∗ Ctl c (evs.drop 58) ∗ crSt c false 2 ∗ Hd X (.inr 1) c ∗ Wr X Wt true 5 c ∗ oc X Wt c true 0 5 ∗ oc X Wt c true 1 5)
      iprop(Ctl c (evs.drop 61) ∗ Wr X Wt false 5 c ∗ sent (trW false 6) c ∗ Hd X (.inr 1) c ∗ Wr X Wt true 5 c ∗ oc X Wt c true 0 6 ∗ oc X Wt c true 1 6) := by
  intro α Q k
  iintro ⟨#HR, HC, Hc, Hx, Hw, Ho0, Ho1⟩ Hk
  simp only [k0_part27_eq_skeleton]
  unfold k0_part27_skel
  simp only [semSignalWord, semWaitWord, Prog.lift, Prog.bind_op, Prog.bind_ret, Prog.pure_eq_ret]
  iapply (rcvW X Wt K Ks c false 5 6 rfl 58 rfl (by decide) rfl rfl) $$ HR HC
  iintro ⟨HC, Hs, Hw'⟩
  iapply (wcr2 X Wt K Ks c false (trW false 6) (fun _ => rfl) 59 rfl (by decide) rfl rfl) $$ HR HC Hc
  iintro ⟨HC, Hl⟩
  iapply (snd X Wt K Ks c _ (trW false 6) false rfl (by revert c; decide) 60 rfl rfl rfl rfl rfl) $$ HR HC Hs Hl
  iintro ⟨HC, Hs⟩
  iapply (ldu c) $$ Hx
  iintro Hx
  iapply (ldW X Wt c true 5 1 rfl) $$ Hw
  iintro Hw
  iapply (upd c true 0) $$ Ho0
  iintro Ho0
  iapply (upd c true 1) $$ Ho1
  iintro Ho1
  iapply Hk
  iframe HC Hw' Hs Hx Hw Ho0 Ho1

end

end Cert.RingMatmul

end
-- ==== Proof.PartsD.lean ====
/-
  The end: the last weights, the scale and the gate, and what was sent comes back.
-/
module

public import proofs.«01_k».proof.Proof.Walk

@[expose] public section

set_option maxRecDepth 16384

noncomputable section

namespace Cert.RingMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Release (slot)

variable {F : FTy → Type} [FloatOps F]

local notation "𝕄" => MT nD τ sig ℕ (Elt F) ℕ UU ℕ

section
variable (X : Dev nD → XT F) (Wt : Dev nD → WT F) (Sx Sw : Dev nD → S1.Idx → F .f32) (K : Dev nD × CK → ℕ) (Ks : SK → ℕ)

/-- A chunk of the result in its last form. -/
abbrev of (c : Dev nD) (d : Bool) (o : Fin 2) : sProp 𝕄 := owns (c : Thread nD τ) (ocol d o) fullShare (fin X Wt Sx Sw c d o)

theorem part28 (c : Dev nD) (v13 v24 : BitVec 32) :
    Part c (onArgs (k0_part28 (F := F)) v13 v24) ⟨Scalar.muli v24 1#32, 0#32⟩
      iprop(Rec X Wt K Ks ∗ Ctl c (evs.drop 61) ∗ Hd X (.inl 1) c ∗ Wr X Wt false 5 c ∗ oc X Wt c false 0 5 ∗ oc X Wt c false 1 5)
      iprop(Ctl c (evs.drop 62) ∗ Hd X (.inl 1) c ∗ Wr X Wt false 5 c ∗ oc X Wt c false 0 6 ∗ oc X Wt c false 1 6 ∗ Wl X Wt true c ∗ Wr X Wt true 6 c) := by
  intro α Q k
  iintro ⟨#HR, HC, Hx, Hw, Ho0, Ho1⟩ Hk
  simp only [k0_part28_eq_skeleton]
  unfold k0_part28_skel
  simp only [onArgs, semSignalWord, semWaitWord, Prog.lift, Prog.bind_op, Prog.bind_ret, Prog.pure_eq_ret]
  iapply (ldu c) $$ Hx
  iintro Hx
  iapply (ldW X Wt c false 5 1 rfl) $$ Hw
  iintro Hw
  iapply (upd c false 0) $$ Ho0
  iintro Ho0
  iapply (upd c false 1) $$ Ho1
  iintro Ho1
  iapply (rcv X Wt K Ks c (trW true 6) (last_halves X Wt true c) 61 rfl (by decide) rfl rfl) $$ HR HC
  iintro ⟨HC, Hl, Hw'⟩
  iapply Hk
  iframe HC Hx Hw Ho0 Ho1 Hl Hw'

/-- The seventh product, the scale and the gate. -/
theorem part29 (c : Dev nD) (v c0 : BitVec 32) :
    Part c (onArgs (k0_part29 (F := F)) (scl Sx Sw c) v c0) (k0_pay69 (scl Sx Sw c) (hdC X (.inr 0) c) (w3 Wt true 6 c) (acc X Wt c true 1 6))
      iprop(Rec X Wt K Ks ∗ Ctl c (evs.drop 62) ∗ Hd X (.inr 0) c ∗ Wr X Wt true 6 c ∗ oc X Wt c true 0 6 ∗ oc X Wt c true 1 6)
      iprop(Ctl c (evs.drop 63) ∗ Wl X Wt false c ∗ Wr X Wt false 6 c ∗ Hd X (.inr 0) c ∗ Wr X Wt true 6 c ∗ of X Wt Sx Sw c true 0 ∗ oc X Wt c true 1 6) := by
  intro α Q k
  iintro ⟨#HR, HC, Hx, Hw, Ho0, Ho1⟩ Hk
  simp only [k0_part29_eq_skeleton]
  unfold k0_part29_skel
  simp only [onArgs, semSignalWord, semWaitWord, Prog.lift, Prog.bind_op, Prog.bind_ret, Prog.pure_eq_ret]
  iapply (rcv X Wt K Ks c (trW false 6) (last_halves X Wt false c) 62 rfl (by decide) rfl rfl) $$ HR HC
  iintro ⟨HC, Hl, Hw'⟩
  iapply (ldu c) $$ Hx
  iintro Hx
  iapply (ldW X Wt c true 6 2 rfl) $$ Hw
  iintro Hw
  iapply (upd c true 0) $$ Ho0
  iintro Ho0
  iapply (ldu c) $$ Ho1
  iintro Ho1
  iapply Hk
  iframe HC Hl Hw' Hx Hw Ho0 Ho1

theorem part30 (c : Dev nD) :
    Part c (onArgs (k0_part30 (F := F)) (scl Sx Sw c) (k0_pay69 (scl Sx Sw c) (hdC X (.inr 0) c) (w3 Wt true 6 c) (acc X Wt c true 1 6))) (k0_pay74 (hdC X (.inl 0) c) (w3 Wt false 6 c))
      iprop(oc X Wt c true 1 6 ∗ Hd X (.inl 0) c ∗ Wr X Wt false 6 c ∗ oc X Wt c false 0 6)
      iprop(of X Wt Sx Sw c true 1 ∗ Hd X (.inl 0) c ∗ Wr X Wt false 6 c ∗ of X Wt Sx Sw c false 0) := by
  intro α Q k
  iintro ⟨Ho, Hx, Hw, Ho'⟩ Hk
  simp only [k0_part30_eq_skeleton]
  unfold k0_part30_skel
  simp only [onArgs, semSignalWord, semWaitWord, Prog.lift, Prog.bind_op, Prog.bind_ret, Prog.pure_eq_ret]
  iapply (put c) $$ Ho
  iintro Ho
  iapply (ldu c) $$ Hx
  iintro Hx
  iapply (ldW X Wt c false 6 2 rfl) $$ Hw
  iintro Hw
  iapply (upd c false 0) $$ Ho'
  iintro Ho'
  iapply Hk
  iframe Ho Hx Hw Ho'

theorem part31 (c : Dev nD) :
    Part c (onArgs (k0_part31 (F := F)) (scl Sx Sw c) (k0_pay74 (hdC X (.inl 0) c) (w3 Wt false 6 c))) ⟨⟩
      iprop(Rec X Wt K Ks ∗ Ctl c (evs.drop 63) ∗ oc X Wt c false 1 6 ∗ sent (trW true 0) c ∗ sent (trW true 4) c ∗ Wr X Wt true 3 c)
      iprop(Ctl c (evs.drop 65) ∗ of X Wt Sx Sw c false 1 ∗ srcPts X Wt (trW true 0) c ∗ landing (trW true 3) c) := by
  intro α Q k
  iintro ⟨#HR, HC, Ho, Hs, Hs', Hw⟩ Hk
  simp only [k0_part31_eq_skeleton]
  unfold k0_part31_skel
  simp only [onArgs, semSignalWord, semWaitWord, Prog.lift, Prog.bind_op, Prog.bind_ret, Prog.pure_eq_ret]
  iapply (upd c false 1) $$ Ho
  iintro Ho
  iapply (wsn X Wt K Ks c (trW true 0) 63 rfl (by decide) (by exact rfl) (by exact rfl)) $$ HR HC Hs
  iintro ⟨HC, Hs⟩
  iapply (wsnW X Wt K Ks c true 3 4 rfl 64 rfl (by decide) (by exact rfl) (by exact rfl)) $$ HR HC Hs' Hw
  iintro ⟨HC, Hl⟩
  iapply Hk
  iframe HC Ho Hs Hl

/-- The sends that are still open are waited for. -/
theorem part32 (c : Dev nD) :
    Part c (onArgs (k0_part32 (F := F))) ⟨⟩
      iprop(Rec X Wt K Ks ∗ Ctl c (evs.drop 65) ∗ sent (trW true 5) c ∗ Wr X Wt true 4 c ∗ sent (trW true 6) c ∗ Wr X Wt true 5 c ∗ sent (trXc 0) c ∗ sent (trXc 1) c)
      iprop(Ctl c (evs.drop 69) ∗ landing (trW true 4) c ∗ landing (trW true 5) c ∗ srcPts X Wt (trXc 0) c ∗ srcPts X Wt (trXc 1) c) := by
  intro α Q k
  iintro ⟨#HR, HC, Hs, Hw, Hs', Hw', H0, H1⟩ Hk
  simp only [k0_part32_eq_skeleton]
  unfold k0_part32_skel
  simp only [onArgs, semSignalWord, semWaitWord, Prog.lift, Prog.bind_op, Prog.bind_ret, Prog.pure_eq_ret]
  iapply (wsnW X Wt K Ks c true 4 5 rfl 65 rfl (by decide) (by exact rfl) (by exact rfl)) $$ HR HC Hs Hw
  iintro ⟨HC, Hl⟩
  iapply (wsnW X Wt K Ks c true 5 6 rfl 66 rfl (by decide) (by exact rfl) (by exact rfl)) $$ HR HC Hs' Hw'
  iintro ⟨HC, Hl'⟩
  iapply (wsn X Wt K Ks c (trXc 0) 67 rfl (by decide) (by exact rfl) (by exact rfl)) $$ HR HC H0
  iintro ⟨HC, H0⟩
  iapply (wsn X Wt K Ks c (trXc 1) 68 rfl (by decide) (by exact rfl) (by exact rfl)) $$ HR HC H1
  iintro ⟨HC, H1⟩
  iapply Hk
  iframe HC Hl Hl' H0 H1

theorem part33 (c : Dev nD) :
    Part c (onArgs (k0_part33 (F := F))) ⟨⟩
      iprop(Rec X Wt K Ks ∗ Ctl c (evs.drop 69) ∗ sent (trXc 2) c ∗ sent (trXc 3) c ∗ sent (trW false 0) c ∗ sent (trW false 4) c ∗ Wr X Wt false 3 c)
      iprop(Ctl c (evs.drop 73) ∗ srcPts X Wt (trXc 2) c ∗ srcPts X Wt (trXc 3) c ∗ srcPts X Wt (trW false 0) c ∗ landing (trW false 3) c) := by
  intro α Q k
  iintro ⟨#HR, HC, H0, H1, Hs, Hs', Hw'⟩ Hk
  simp only [k0_part33_eq_skeleton]
  unfold k0_part33_skel
  simp only [onArgs, semSignalWord, semWaitWord, Prog.lift, Prog.bind_op, Prog.bind_ret, Prog.pure_eq_ret]
  iapply (wsn X Wt K Ks c (trXc 2) 69 rfl (by decide) (by exact rfl) (by exact rfl)) $$ HR HC H0
  iintro ⟨HC, H0⟩
  iapply (wsn X Wt K Ks c (trXc 3) 70 rfl (by decide) (by exact rfl) (by exact rfl)) $$ HR HC H1
  iintro ⟨HC, H1⟩
  iapply (wsn X Wt K Ks c (trW false 0) 71 rfl (by decide) (by exact rfl) (by exact rfl)) $$ HR HC Hs
  iintro ⟨HC, Hs⟩
  iapply (wsnW X Wt K Ks c false 3 4 rfl 72 rfl (by decide) (by exact rfl) (by exact rfl)) $$ HR HC Hs' Hw'
  iintro ⟨HC, Hl'⟩
  iapply Hk
  iframe HC H0 H1 Hs Hl'

theorem part34 (c : Dev nD) :
    Part c (onArgs (k0_part34 (F := F))) ⟨⟩
      iprop(Rec X Wt K Ks ∗ Ctl c (evs.drop 73) ∗ sent (trW false 5) c ∗ Wr X Wt false 4 c ∗ sent (trW false 6) c ∗ Wr X Wt false 5 c ∗ sent (trXa 0) c ∗ sent (trXa 1) c)
      iprop(Ctl c (evs.drop 77) ∗ landing (trW false 4) c ∗ landing (trW false 5) c ∗ srcPts X Wt (trXa 0) c ∗ srcPts X Wt (trXa 1) c) := by
  intro α Q k
  iintro ⟨#HR, HC, Hs, Hw, Hs', Hw', H0, H1⟩ Hk
  simp only [k0_part34_eq_skeleton]
  unfold k0_part34_skel
  simp only [onArgs, semSignalWord, semWaitWord, Prog.lift, Prog.bind_op, Prog.bind_ret, Prog.pure_eq_ret]
  iapply (wsnW X Wt K Ks c false 4 5 rfl 73 rfl (by decide) (by exact rfl) (by exact rfl)) $$ HR HC Hs Hw
  iintro ⟨HC, Hl⟩
  iapply (wsnW X Wt K Ks c false 5 6 rfl 74 rfl (by decide) (by exact rfl) (by exact rfl)) $$ HR HC Hs' Hw'
  iintro ⟨HC, Hl'⟩
  iapply (wsn X Wt K Ks c (trXa 0) 75 rfl (by decide) (by exact rfl) (by exact rfl)) $$ HR HC H0
  iintro ⟨HC, H0⟩
  iapply (wsn X Wt K Ks c (trXa 1) 76 rfl (by decide) (by exact rfl) (by exact rfl)) $$ HR HC H1
  iintro ⟨HC, H1⟩
  iapply Hk
  iframe HC Hl Hl' H0 H1

end

end Cert.RingMatmul

end
-- ==== Proof.Body.lean ====
/-
  The body of the kernel: its parts, one after the other.
-/
module

public import proofs.«01_k».proof.Proof.PartsA
public import proofs.«01_k».proof.Proof.PartsB
public import proofs.«01_k».proof.Proof.PartsC
public import proofs.«01_k».proof.Proof.PartsD

@[expose] public section

set_option maxRecDepth 16384

noncomputable section

namespace Cert.RingMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Release (slot)

variable {F : FTy → Type} [FloatOps F]

local notation "𝕄" => MT nD τ sig ℕ (Elt F) ℕ UU ℕ

/-- A part, as a step of the walk. -/
theorem Part.go {α β : Type} {c : Dev nD} {p : Prog (TpuEff nD τ sig (Elt F) Λ₀ .tc) β} {r : β} {A B : sProp 𝕄} (h : Part c p r A B)
    {Q : α → sProp 𝕄} {k : β → Prog (TpuEff nD τ sig (Elt F) Λ₀ .tc) α} : A ⊢ iprop((B -∗ run c (k r) Q) -∗ run c (p.bind k) Q) := h

/-- A buffer through a slice that is all of it. -/
theorem slot_full {s : Shape} {e : EltTy} (c : Dev nD) (m : Memref sig .tc .vmem s e) {off : Fin s.rank → ℕ} (h : ∀ a, off a = 0)
    (inb : ∀ a, off a + s.size a ≤ s.size a) :
    (slot ((m.slice (Rect.unit (s := s) off s.size inb) (fun _ => rfl)).view.loc (c : Thread nD τ))
      (m.slice (Rect.unit (s := s) off s.size inb) (fun _ => rfl)).view.set : sProp 𝕄) = slot (m.view.loc (c : Thread nD τ)) m.view.set := by
  have hset : (m.slice (Rect.unit (s := s) off s.size inb) (fun _ => rfl)).view.set = m.view.set := by
    show (m.view.slice (Rect.unit (s := s) off s.size inb)).set = _
    rw [View.set_slice, set_full h inb, View.set]
  exact congrArg (fun S => (slot (m.view.loc (c : Thread nD τ)) S : sProp 𝕄)) hset

theorem zero3 (a : Fin 3) : (![0, 0, 0] : Fin 3 → ℕ) a = 0 := by fin_cases a <;> rfl

section
variable (X : Dev nD → XT F) (Wt : Dev nD → WT F) (Sx Sw : Dev nD → S1.Idx → F .f32) (K : Dev nD × CK → ℕ) (Ks : SK → ℕ)

/-- What the body starts from, beside its own input blocks, -/
def before (c : Dev nD) : sProp 𝕄 :=
  iprop((rU c a13 0 ∗ rU c a13 1 ∗ rU c a13 2 ∗ rU c a13 3) ∗ (rU c a14 0 ∗ rU c a14 1 ∗ rU c a14 2)
    ∗ (ocU c true 0 ∗ ocU c true 1 ∗ ocU c false 0 ∗ ocU c false 1)
    ∗ (freed true 0 c ∗ freed false 0 c ∗ crSt c true 0 ∗ crSt c false 0))
/-- the blocks it reads -/
def ins (c : Dev nD) : sProp 𝕄 :=
  iprop(xO X c ∗ wO Wt c ∗ srcPts X Wt (trW true 0) c ∗ srcPts X Wt (trW false 0) c ∗ owns (c : Thread nD τ) a2 fullShare (Sx c)
    ∗ owns (c : Thread nD τ) a3 fullShare (Sw c))
/-- and what it ends with. -/
def after (c : Dev nD) : sProp 𝕄 :=
  iprop(srcPts X Wt (trXc 0) c ∗ srcPts X Wt (trXa 0) c
    ∗ (of X Wt Sx Sw c true 0 ∗ of X Wt Sx Sw c true 1 ∗ of X Wt Sx Sw c false 0 ∗ of X Wt Sx Sw c false 1))

theorem lands_t (c : Dev nD) : (landings true c : sProp 𝕄) ⊣⊢ iprop(landing (trW true 0) c ∗ landing (trW true 1) c ∗ landing (trW true 2) c ∗ landing (trW true 3) c
    ∗ landing (trXc 0) c ∗ landing (trXc 1) c ∗ landing (trXc 2) c ∗ landing (trXc 3) c) := ⟨.rfl, .rfl⟩
theorem lands_f (c : Dev nD) : (landings false c : sProp 𝕄) ⊣⊢ iprop(landing (trW false 0) c ∗ landing (trW false 1) c ∗ landing (trW false 2) c ∗ landing (trW false 3) c
    ∗ landing (trXa 0) c ∗ landing (trXa 1) c ∗ landing (trXa 2) c) := ⟨.rfl, .rfl⟩

/-- What is left of the landings of each direction is what they were. -/
theorem back_t (c : Dev nD) : iprop(landing (trW true 4) c ∗ landing (trW true 5) c ∗ (Wl X Wt true c ∗ Wr X Wt true 6 c) ∗ landing (trW true 3) c
    ∗ (Hd X (.inl 0) c ∗ srcPts X Wt (trXc 1) c) ∗ (Hd X (.inl 1) c ∗ srcPts X Wt (trXc 2) c) ∗ (Hd X (.inl 2) c ∗ srcPts X Wt (trXc 3) c) ∗ Hd X (.inl 3) c)
    ⊢ (landings true c : sProp 𝕄) := by
  have e0 : (landing (trXc 0) c : sProp 𝕄) = slot ((b1c).view.loc (c : Thread nD τ)) (b1c).view.set := slot_full c b1c zero3 _
  have e1 : (landing (trXc 1) c : sProp 𝕄) = slot ((b2c).view.loc (c : Thread nD τ)) (b2c).view.set := slot_full c b2c zero3 _
  have e2 : (landing (trXc 2) c : sProp 𝕄) = slot ((b3c).view.loc (c : Thread nD τ)) (b3c).view.set := slot_full c b3c zero3 _
  refine BIBase.Entails.trans ?_ (lands_t c).2
  rw [e0, e1, e2]
  iintro ⟨W0, W1, W2, W3, X0, X1, X2, X3⟩
  ihave W2 := (last_slot X Wt true c) $$ W2
  ihave X0 := (xslot_c0 X Wt c) $$ X0
  ihave X1 := (xslot_c1 X Wt c) $$ X1
  ihave X2 := (xslot_c2 X Wt c) $$ X2
  ihave X3 := (show (Hd X (.inl 3) c : sProp 𝕄) ⊢ landing (trXc 3) c from owns_slot c (all1 b4c) _) $$ X3
  isplitl [W0]; · iexact W0
  isplitl [W1]; · iexact W1
  isplitl [W2]; · iexact W2
  isplitl [W3]; · iexact W3
  isplitl [X0]; · iexact X0
  isplitl [X1]; · iexact X1
  isplitl [X2]; · iexact X2
  iexact X3
theorem back_f (c : Dev nD) : iprop(landing (trW false 4) c ∗ landing (trW false 5) c ∗ (Wl X Wt false c ∗ Wr X Wt false 6 c) ∗ landing (trW false 3) c
    ∗ (Hd X (.inr 0) c ∗ srcPts X Wt (trXa 1) c) ∗ (Hd X (.inr 1) c ∗ srcPts X Wt (trXa 2) c) ∗ Hd X (.inr 2) c)
    ⊢ (landings false c : sProp 𝕄) := by
  have e0 : (landing (trXa 0) c : sProp 𝕄) = slot ((b1a).view.loc (c : Thread nD τ)) (b1a).view.set := slot_full c b1a zero3 _
  have e1 : (landing (trXa 1) c : sProp 𝕄) = slot ((b2a).view.loc (c : Thread nD τ)) (b2a).view.set := slot_full c b2a zero3 _
  refine BIBase.Entails.trans ?_ (lands_f c).2
  rw [e0, e1]
  iintro ⟨W0, W1, W2, W3, X0, X1, X2⟩
  ihave W2 := (last_slot X Wt false c) $$ W2
  ihave X0 := (xslot_a0 X Wt c) $$ X0
  ihave X1 := (xslot_a1 X Wt c) $$ X1
  ihave X2 := (show (Hd X (.inr 2) c : sProp 𝕄) ⊢ landing (trXa 2) c from owns_slot c (all1 b3a) _) $$ X2
  isplitl [W0]; · iexact W0
  isplitl [W1]; · iexact W1
  isplitl [W2]; · iexact W2
  isplitl [W3]; · iexact W3
  isplitl [X0]; · iexact X0
  isplitl [X1]; · iexact X1
  iexact X2

/-- The body. -/
theorem body_run (c : Dev nD) (Q : PUnit → sProp 𝕄) :
    iprop(Rec X Wt K Ks ∗ Ctl c (evs.drop 0) ∗ landings true c ∗ landings false c ∗ ins X Wt Sx Sw c ∗ before c)
      ⊢ iprop(((Ctl c (evs.drop 78) ∗ landings true c ∗ landings false c ∗ ins X Wt Sx Sw c ∗ after X Wt Sx Sw c) -∗ Q ⟨⟩)
        -∗ run c (onArgs (cc0_body (F := F))) Q) := by
  obtain ⟨v2, v13, v24, h1⟩ := part1 X Wt Sx K Ks c
  unfold ins before
  iintro ⟨#HR, HC, HLt, HLf, ⟨Hx, Hw, St, Sf, H2, H3⟩, ⟨P0, P1, P2, P3⟩, ⟨N0, N1, N2⟩, ⟨O0, O1, O2, O3⟩, Ft, Ff, Ct, Cf⟩ Hk
  simp only [cc0_body_eq_skeleton]
  unfold cc0_body_skel
  simp only [onArgs, Prog.lift, Prog.bind_op, Prog.bind_ret, Prog.pure_eq_ret]
  iapply (Part.go h1) $$ [HC HLt HLf H2]
  · iframe HR HC HLt HLf H2
  iintro ⟨HC, HLt, HLf, H2⟩
  dsimp only
  ihave HLt := (lands_t (nxt true c)).1 $$ HLt
  icases HLt with ⟨Lt0, Lt1, Lt2, Lt3, Lc0, Lc1, Lc2, Lc3⟩
  ihave HLf := (lands_f (nxt false c)).1 $$ HLf
  icases HLf with ⟨Lf0, Lf1, Lf2, Lf3, La0, La1, La2⟩
  iapply (Part.go (part2 X Sx Sw c v2)) $$ [H3 Hx P0]
  · iframe H3 Hx P0
  iintro ⟨H3, Hx, P0⟩
  dsimp only
  iapply (Part.go (part3 X c v2)) $$ [Hx P1 P2]
  · iframe Hx P1 P2
  iintro ⟨Hx, P1, P2⟩
  iapply (Part.go (part4 X c v2)) $$ [Hx P3 N0]
  · iframe Hx P3 N0
  iintro ⟨Hx, P3, N0⟩
  iapply (Part.go (part5 X Wt K Ks c v2 v24)) $$ [HC Hx N1 N2 St Lt0]
  · iframe HR HC Hx N1 N2 St Lt0
  iintro ⟨HC, Hx, N1, N2, Wt0⟩
  ihave Sc0 := (stage13 X Wt c) $$ [P0 P1 P2 P3]
  · iframe P0 P1 P2 P3
  ihave Sa0 := (stage14 X Wt c) $$ [N0 N1 N2]
  · iframe N0 N1 N2
  iapply (Part.go (part6 X Wt K Ks c v2 v13 v24)) $$ [HC Sc0 Lc0 Sf Lf0 Sa0 La0]
  · iframe HR HC Sc0 Lc0 Sf Lf0 Sa0 La0
  iintro ⟨HC, Xc0, Wf0, Xa0⟩
  iapply (Part.go (part7 X Wt c v13)) $$ [Hx Hw O0 O1 O2 O3]
  · iframe Hx Hw O0 O1 O2 O3
  iintro ⟨Hx, Hw, O0, O1, O2, O3⟩
  iapply (Part.go (part8 X Wt K Ks c v13 v24)) $$ [HC Lt1 Lc1]
  · iframe HR HC Lt1 Lc1
  iintro ⟨HC, Kt0, Wt1, Hc0, Xc1⟩
  iapply (Part.go (part9 X Wt K Ks c v13 v24)) $$ [HC Lf1]
  · iframe HR HC Lf1
  iintro ⟨HC, Kf0, Wf1, Ha0, Sa1⟩
  dsimp only
  iapply (Part.go (part10 X Wt K Ks c _ _)) $$ [HC Sa1 La1 Hc0 Kt0 Ha0 Kf0 O0 O1]
  · iframe HR HC Sa1 La1 Hc0 Kt0 Ha0 Kf0 O0 O1
  iintro ⟨HC, Xa1, Hc0, Kt0, Ha0, Kf0, O0, O1⟩
  dsimp only
  iapply (Part.go (part11 X Wt K Ks c v13 v24)) $$ [HC O2 O3]
  · iframe HR HC O2 O3
  iintro ⟨HC, O2, O3, St2, Kt1⟩
  iapply (Part.go (part12 X Wt K Ks c v13 v24)) $$ [HC St2 Lt2 Lc2]
  · iframe HR HC St2 Lt2 Lc2
  iintro ⟨HC, Wt2, Hc1, Xc2, Sf2, Kf1⟩
  iapply (Part.go (part13 X Wt K Ks c v13 v24)) $$ [HC Sf2 Lf2 La2 Hc1]
  · iframe HR HC Sf2 Lf2 La2 Hc1
  iintro ⟨HC, Wf2, Ha1, Xa2, Hc1⟩
  iapply (Part.go (part14 X Wt c)) $$ [Kt1 Ha1 Kf1 O0 O1 O2 O3]
  · iframe Kt1 Ha1 Kf1 O0 O1 O2 O3
  iintro ⟨Kt1, Ha1, Kf1, O0, O1, O2, O3⟩
  iapply (Part.go (part15 X Wt K Ks c v13 v24)) $$ [HC O3 Lt3]
  · iframe HR HC O3 Lt3
  iintro ⟨HC, O3, Kt2, Wt3, Hc2, Sc3⟩
  iapply (Part.go (part16 X Wt K Ks c v13 v24)) $$ [HC Sc3 Lc3 Lf3]
  · iframe HR HC Sc3 Lc3 Lf3
  iintro ⟨HC, Xc3, Kf2, Wf3⟩
  iapply (Part.go (part17 X Wt K Ks c v24)) $$ [HC Hc2 Kt2 Kf2 O0 O1]
  · iframe HR HC Hc2 Kt2 Kf2 O0 O1
  iintro ⟨HC, Hc2, Kt2, Ha2, Kf2, O0, O1⟩
  dsimp only
  iapply (Part.go (part18 X Wt K Ks c v13)) $$ [HC O2 O3 Wt1 Kt0 Ft]
  · iframe HR HC O2 O3 Wt1 Kt0 Ft
  iintro ⟨HC, O2, O3, Ft⟩
  iapply (Part.go (part19 X Wt K Ks c v13 v24)) $$ [HC Wf1 Kf0 Ff Ct]
  · iframe HR HC Wf1 Kf0 Ff Ct
  iintro ⟨HC, Ff, Ct, Kt3, Wt4⟩
  iapply (Part.go (part20 X Wt K Ks c v13 v24)) $$ [HC Cf Kt3]
  · iframe HR HC Cf Kt3
  iintro ⟨HC, Hc3, Kf3, Cf, Wf4, Kt3⟩
  dsimp only
  iapply (Part.go (part21 X Wt c)) $$ [Hc3 Kf3 O0 O1 O2 O3]
  · iframe Hc3 Kf3 O0 O1 O2 O3
  iintro ⟨Hc3, Kf3, O0, O1, O2, O3⟩
  iapply (Part.go (part22 X Wt K Ks c v13 v24)) $$ [HC Wt2 Kt1 Ft Wf2 Kf1 Ff]
  · iframe HR HC Wt2 Kt1 Ft Wf2 Kf1 Ff
  iintro ⟨HC, Ft, Ff⟩
  iapply (Part.go (part23 X Wt K Ks c v13 v24)) $$ [HC Ct Cf]
  · iframe HR HC Ct Cf
  iintro ⟨HC, Kt4, Ct, Wt5, Sf5, Kf4, Cf, Lf5⟩
  iapply (Part.go (part24 X Wt K Ks c)) $$ [HC Sf5 Lf5 Ha2 Kt4 Hc2 Kf4 O0 O1 O2]
  · iframe HR HC Sf5 Lf5 Ha2 Kt4 Hc2 Kf4 O0 O1 O2
  iintro ⟨HC, Wf5, Ha2, Kt4, Hc2, Kf4, O0, O1, O2⟩
  dsimp only
  iapply (Part.go (part25 X Wt K Ks c v13 v24)) $$ [HC O2 O3 Wt3 Kt2 Ft Wf3 Kf2 Ff]
  · iframe HR HC O2 O3 Wt3 Kt2 Ft Wf3 Kf2 Ff
  iintro ⟨HC, O2, O3, Ft, Ff⟩
  iapply (Part.go (part26 X Wt K Ks c v13 v24)) $$ [HC Ct]
  · iframe HR HC Ct
  iintro ⟨HC, Kt5, Wt6⟩
  iapply (Part.go (part27 X Wt K Ks c v13)) $$ [HC Cf Ha1 Kt5 O0 O1]
  · iframe HR HC Cf Ha1 Kt5 O0 O1
  iintro ⟨HC, Kf5, Wf6, Ha1, Kt5, O0, O1⟩
  iapply (Part.go (part28 X Wt K Ks c v13 v24)) $$ [HC Hc1 Kf5 O2 O3]
  · iframe HR HC Hc1 Kf5 O2 O3
  iintro ⟨HC, Hc1, Kf5, O2, O3, Lt6, Kt6⟩
  dsimp only
  iapply (Part.go (part29 X Wt Sx Sw K Ks c _ _)) $$ [HC Ha0 Kt6 O0 O1]
  · iframe HR HC Ha0 Kt6 O0 O1
  iintro ⟨HC, Lf6, Kf6, Ha0, Kt6, O0, O1⟩
  iapply (Part.go (part30 X Wt Sx Sw c)) $$ [O1 Hc0 Kf6 O2]
  · iframe O1 Hc0 Kf6 O2
  iintro ⟨O1, Hc0, Kf6, O2⟩
  iapply (Part.go (part31 X Wt Sx Sw K Ks c)) $$ [HC O3 Wt0 Wt4 Kt3]
  · iframe HR HC O3 Wt0 Wt4 Kt3
  iintro ⟨HC, O3, St, Et3⟩
  iapply (Part.go (part32 X Wt K Ks c)) $$ [HC Wt5 Kt4 Wt6 Kt5 Xc0 Xc1]
  · iframe HR HC Wt5 Kt4 Wt6 Kt5 Xc0 Xc1
  iintro ⟨HC, Et0, Et1, Sc0, Sc1⟩
  iapply (Part.go (part33 X Wt K Ks c)) $$ [HC Xc2 Xc3 Wf0 Wf4 Kf3]
  · iframe HR HC Xc2 Xc3 Wf0 Wf4 Kf3
  iintro ⟨HC, Sc2, Sc3, Sf, Ef3⟩
  iapply (Part.go (part34 X Wt K Ks c)) $$ [HC Wf5 Kf4 Wf6 Kf5 Xa0 Xa1]
  · iframe HR HC Wf5 Kf4 Wf6 Kf5 Xa0 Xa1
  iintro ⟨HC, Ef0, Ef1, Sa0, Sa1⟩
  iapply (wsn X Wt K Ks c (trXa 2) 77 rfl (by decide) (by exact rfl) (by exact rfl)) $$ HR HC Xa2
  iintro ⟨HC, Sa2⟩
  simp only [run, wp_ret]
  imodintro
  iapply Hk
  ihave HLt := (back_t X Wt c) $$ [Et0 Et1 Lt6 Kt6 Et3 Hc0 Hc1 Hc2 Hc3 Sc1 Sc2 Sc3]
  · iframe Et0 Et1 Lt6 Kt6 Et3 Hc0 Hc1 Hc2 Hc3 Sc1 Sc2 Sc3
  ihave HLf := (back_f X Wt c) $$ [Ef0 Ef1 Lf6 Kf6 Ef3 Ha0 Ha1 Ha2 Sa1 Sa2]
  · iframe Ef0 Ef1 Lf6 Kf6 Ef3 Ha0 Ha1 Ha2 Sa1 Sa2
  unfold after
  iframe HC HLt HLf Hx Hw St Sf H2 H3 Sc0 Sa0 O0 O1 O2 O3

end

end Cert.RingMatmul

end
-- ==== Proof.Glue.lean ====
/-
  The buffers the launch hands over, cut into the pieces the body works on, and put together again afterwards.
-/
module

public import proofs.«01_k».proof.Proof.Body

@[expose] public section

set_option maxRecDepth 16384

noncomputable section

namespace Cert.RingMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Release (slot)

variable {F : FTy → Type} [FloatOps F]

local notation "𝕄" => MT nD τ sig ℕ (Elt F) ℕ UU ℕ

/-! ## Whole buffers -/

/-- A buffer at any contents, as a slot. -/
theorem whole_slot (c : Dev nD) (b : Ref sig .tc) :
    (iprop(∃ f : Buf (Elt F) ((c : Thread nD τ).loc b), ((c : Thread nD τ).loc b) ↦{fullShare} f) : sProp 𝕄)
      = slot ((Memref.whole b).view.loc (c : Thread nD τ)) (Memref.whole b).view.set := by
  unfold slot
  simp only [Memref.view_whole, View.set_whole]

theorem chain4 {I : Type} (Φ : I → sProp 𝕄) (i j k l : I) : bigSepL [i, j, k, l] Φ = iprop(Φ i ∗ Φ j ∗ Φ k ∗ Φ l) := by
  rw [bigSepL_cons', bigSepL_cons', bigSepL_cons', bigSepL_singleton]
theorem chain3 {I : Type} (Φ : I → sProp 𝕄) (i j k : I) : bigSepL [i, j, k] Φ = iprop(Φ i ∗ Φ j ∗ Φ k) := by
  rw [bigSepL_cons', bigSepL_cons', bigSepL_singleton]

theorem rows4 (c : Dev nD) : (slot ((a13).view.loc (c : Thread nD τ)) (a13).view.set : sProp 𝕄) ⊢ iprop(rU c a13 0 ∗ rU c a13 1 ∗ rU c a13 2 ∗ rU c a13 3) := by
  refine (slot_owns c a13).trans ?_
  iintro ⟨%Y, H⟩
  ihave H := ((rows_split c a13 Y).trans (Entails.of_eq ((bigSep_univ_eq_bigSepL [0, 1, 2, 3] (by decide) (by decide) _).trans (chain4 _ _ _ _ _)))) $$ H
  icases H with ⟨H0, H1, H2, H3⟩
  isplitl [H0]; · iexists _; iexact H0
  isplitl [H1]; · iexists _; iexact H1
  isplitl [H2]; · iexists _; iexact H2
  iexists _; iexact H3
theorem rows3 (c : Dev nD) : (slot ((a14).view.loc (c : Thread nD τ)) (a14).view.set : sProp 𝕄) ⊢ iprop(rU c a14 0 ∗ rU c a14 1 ∗ rU c a14 2) := by
  refine (slot_owns c a14).trans ?_
  iintro ⟨%Y, H⟩
  ihave H := ((rows_split c a14 Y).trans (Entails.of_eq ((bigSep_univ_eq_bigSepL [0, 1, 2] (by decide) (by decide) _).trans (chain3 _ _ _ _)))) $$ H
  icases H with ⟨H0, H1, H2⟩
  isplitl [H0]; · iexists _; iexact H0
  isplitl [H1]; · iexists _; iexact H1
  iexists _; iexact H2
theorem chunks4 (c : Dev nD) (Y : S512x8192.Idx → Elt F .f32) :
    (owns (c : Thread nD τ) a4 fullShare Y : sProp 𝕄) ⊢ iprop(ocU c true 0 ∗ ocU c true 1 ∗ ocU c false 0 ∗ ocU c false 1) := by
  iintro H
  ihave H := ((out_split c Y).trans (Entails.of_eq ((bigSep_univ_eq_bigSepL [(true, 0), (true, 1), (false, 0), (false, 1)] (by decide) (by decide) _).trans (chain4 _ _ _ _ _)))) $$ H
  icases H with ⟨H0, H1, H2, H3⟩
  isplitl [H0]; · iexists _; iexact H0
  isplitl [H1]; · iexists _; iexact H1
  isplitl [H2]; · iexists _; iexact H2
  iexists _; iexact H3

/-- The landing of an `x` hop is all of a buffer. -/
theorem lands_x (c : Dev nD) : (landing (trXc 0) c : sProp 𝕄) = slot ((b1c).view.loc (c : Thread nD τ)) (b1c).view.set
    ∧ (landing (trXc 1) c : sProp 𝕄) = slot ((b2c).view.loc (c : Thread nD τ)) (b2c).view.set
    ∧ (landing (trXc 2) c : sProp 𝕄) = slot ((b3c).view.loc (c : Thread nD τ)) (b3c).view.set
    ∧ (landing (trXc 3) c : sProp 𝕄) = slot ((b4c).view.loc (c : Thread nD τ)) (b4c).view.set
    ∧ (landing (trXa 0) c : sProp 𝕄) = slot ((b1a).view.loc (c : Thread nD τ)) (b1a).view.set
    ∧ (landing (trXa 1) c : sProp 𝕄) = slot ((b2a).view.loc (c : Thread nD τ)) (b2a).view.set
    ∧ (landing (trXa 2) c : sProp 𝕄) = slot ((b3a).view.loc (c : Thread nD τ)) (b3a).view.set :=
  ⟨slot_full c b1c zero3 _, slot_full c b2c zero3 _, slot_full c b3c zero3 _, slot_full c b4c zero3 _, slot_full c b1a zero3 _, slot_full c b2a zero3 _,
    slot_full c b3a zero3 _⟩

/-- The scratch buffers, -/
theorem scratch_out (c : Dev nD) : (Pipeline.scopedRest (Ix := ℕ) (Name := ℕ) (U := UU) (Lvl := ℕ) (Val := Elt F) spec0 c : sProp 𝕄)
    ⊢ iprop(landings true c ∗ landings false c ∗ (rU c a13 0 ∗ rU c a13 1 ∗ rU c a13 2 ∗ rU c a13 3) ∗ (rU c a14 0 ∗ rU c a14 1 ∗ rU c a14 2)) := by
  obtain ⟨e0, e1, e2, e3, e4, e5, e6⟩ := lands_x (F := F) c
  rw [scopedRest0_eq]
  simp only [whole_slot]
  iintro ⟨W0, W1, R0, R1, X0, X1, X2, X3, X4, X5, X6⟩
  ihave W0 := (show slot ((Memref.whole cc0_scratch0).view.loc (c : Thread nD τ)) (Memref.whole cc0_scratch0).view.set
    ⊢ (iprop(landing (trW true 0) c ∗ landing (trW true 1) c ∗ landing (trW true 2) c ∗ landing (trW true 3) c) : sProp 𝕄) from wslots_split c true) $$ W0
  ihave W1 := (show slot ((Memref.whole cc0_scratch1).view.loc (c : Thread nD τ)) (Memref.whole cc0_scratch1).view.set
    ⊢ (iprop(landing (trW false 0) c ∗ landing (trW false 1) c ∗ landing (trW false 2) c ∗ landing (trW false 3) c) : sProp 𝕄) from wslots_split c false) $$ W1
  ihave R0 := (rows4 c) $$ R0
  ihave R1 := (rows3 c) $$ R1
  ihave X0 := (Entails.of_eq e0.symm) $$ X0
  ihave X1 := (Entails.of_eq e1.symm) $$ X1
  ihave X2 := (Entails.of_eq e2.symm) $$ X2
  ihave X3 := (Entails.of_eq e3.symm) $$ X3
  ihave X4 := (Entails.of_eq e4.symm) $$ X4
  ihave X5 := (Entails.of_eq e5.symm) $$ X5
  ihave X6 := (Entails.of_eq e6.symm) $$ X6
  icases W0 with ⟨T0, T1, T2, T3⟩
  icases W1 with ⟨F0, F1, F2, F3⟩
  isplitl [T0 T1 T2 T3 X0 X1 X2 X3]
  · iapply (lands_t c).2; iframe T0 T1 T2 T3 X0 X1 X2 X3
  isplitl [F0 F1 F2 F3 X4 X5 X6]
  · iapply (lands_f c).2; iframe F0 F1 F2 F3 X4 X5 X6
  isplitl [R0] <;> iassumption

section
variable (X : Dev nD → XT F) (Wt : Dev nD → WT F) (Sx Sw : Dev nD → S1.Idx → F .f32)

/-- and again. -/
theorem scratch_in (c : Dev nD) : iprop(landings true c ∗ landings false c ∗ srcPts X Wt (trXc 0) c ∗ srcPts X Wt (trXa 0) c)
    ⊢ (Pipeline.scopedRest (Ix := ℕ) (Name := ℕ) (U := UU) (Lvl := ℕ) (Val := Elt F) spec0 c : sProp 𝕄) := by
  obtain ⟨e0, e1, e2, e3, e4, e5, e6⟩ := lands_x (F := F) c
  have r0 : srcPts X Wt (trXc 0) c ⊢ (slot ((a13).view.loc (c : Thread nD τ)) (a13).view.set : sProp 𝕄) :=
    (src_slot X Wt (.inl 0) c).trans (Entails.of_eq (slot_full c a13 zero3 _))
  have r1 : srcPts X Wt (trXa 0) c ⊢ (slot ((a14).view.loc (c : Thread nD τ)) (a14).view.set : sProp 𝕄) :=
    (src_slot X Wt (.inr 0) c).trans (Entails.of_eq (slot_full c a14 zero3 _))
  rw [scopedRest0_eq]
  simp only [whole_slot]
  iintro ⟨Ht, Hf, R0, R1⟩
  ihave Ht := (lands_t c).1 $$ Ht
  ihave Hf := (lands_f c).1 $$ Hf
  icases Ht with ⟨T0, T1, T2, T3, X0, X1, X2, X3⟩
  icases Hf with ⟨F0, F1, F2, F3, X4, X5, X6⟩
  isplitl [T0 T1 T2 T3]
  · iapply (wslots_join c true); iframe T0 T1 T2 T3
  isplitl [F0 F1 F2 F3]
  · iapply (wslots_join c false); iframe F0 F1 F2 F3
  isplitl [R0]; · iapply r0; iexact R0
  isplitl [R1]; · iapply r1; iexact R1
  isplitl [X0]; · iapply (Entails.of_eq e0); iexact X0
  isplitl [X1]; · iapply (Entails.of_eq e1); iexact X1
  isplitl [X2]; · iapply (Entails.of_eq e2); iexact X2
  isplitl [X3]; · iapply (Entails.of_eq e3); iexact X3
  isplitl [X4]; · iapply (Entails.of_eq e4); iexact X4
  isplitl [X5]; · iapply (Entails.of_eq e5); iexact X5
  iapply (Entails.of_eq e6); iexact X6

/-! ## The blocks -/

/-- A weight block: one half of its permission stays with the products, the other goes out with the first hops. -/
theorem w_out (c : Dev nD) : (owns (c : Thread nD τ) a1 fullShare (Wt c) : sProp 𝕄)
    ⊣⊢ iprop(wO Wt c ∗ srcPts X Wt (trW true 0) c ∗ srcPts X Wt (trW false 0) c) := by
  rw [src_own, src_own]
  refine ⟨?_, ?_⟩
  · iintro H
    ihave H := (owns_halves (c : Thread nD τ) a1 fullShare (Wt c)).1 $$ H
    icases H with ⟨Hl, Hr⟩
    isplitl [Hr]; · iexact Hr
    iapply (w_split c _ (Wt c)); iexact Hl
  · iintro ⟨Hr, Hl⟩
    iapply (owns_halves (c : Thread nD τ) a1 fullShare (Wt c)).2
    isplitl [Hl]
    · iapply (w_join c _ (Wt c)); iexact Hl
    iexact Hr

theorem ins_of (c : Dev nD) : iprop(owns (c : Thread nD τ) a0 fullShare (X c) ∗ owns (c : Thread nD τ) a1 fullShare (Wt c)
      ∗ owns (c : Thread nD τ) a2 fullShare (Sx c) ∗ owns (c : Thread nD τ) a3 fullShare (Sw c))
    ⊢ (ins X Wt Sx Sw c : sProp 𝕄) := by
  unfold ins
  iintro ⟨H0, H1, H2, H3⟩
  ihave H1 := (w_out X Wt c).1 $$ H1
  icases H1 with ⟨Hw, Ht, Hf⟩
  iframe H0 Hw Ht Hf H2 H3
theorem of_ins (c : Dev nD) : (ins X Wt Sx Sw c : sProp 𝕄)
    ⊢ iprop(owns (c : Thread nD τ) a0 fullShare (X c) ∗ owns (c : Thread nD τ) a1 fullShare (Wt c)
      ∗ owns (c : Thread nD τ) a2 fullShare (Sx c) ∗ owns (c : Thread nD τ) a3 fullShare (Sw c)) := by
  unfold ins
  iintro ⟨H0, Hw, Ht, Hf, H2, H3⟩
  isplitl [H0]; · iexact H0
  isplitl [Hw Ht Hf]
  · iapply (w_out X Wt c).2; iframe Hw Ht Hf
  isplitl [H2] <;> iassumption

/-! ## The result block -/

/-- The direction, the chunk and the place within it of an element of the result block. -/
def dOf (i : S512x8192.Idx) : Bool := decide ((i 1).val < 4096)
def oOf (i : S512x8192.Idx) : Fin 2 := ⟨(i 1).val % 4096 / 2048, by omega⟩
def jOf (i : S512x8192.Idx) : S512x2048.Idx := fun a => match a with
  | 0 => ⟨(i 0).val, (i 0).isLt⟩
  | 1 => ⟨(i 1).val % 2048, Nat.mod_lt _ (by decide)⟩

theorem col_eq (d : Bool) (o : Fin 2) : col d o = (if d then 0 else 4096) + 2048 * o.val := by revert d o; decide

/-- The result block of device `c`. -/
def outY (c : Dev nD) : S512x8192.Idx → F .f32 := fun i => fin X Wt Sx Sw c (dOf i) (oOf i) (jOf i)
theorem outY_emb (c : Dev nD) (d : Bool) (o : Fin 2) : (fun j => outY X Wt Sx Sw c ((rCol d o).emb j)) = fin X Wt Sx Sw c d o := by
  funext j
  have h1 : (j 1).val < 2048 := (j 1).isLt
  have ho : o.val < 2 := o.isLt
  have e1 : (((rCol d o).emb j) 1).val = col d o + (j 1).val := by
    show col d o + 1 * (j 1).val = _; omega
  have e0 : (((rCol d o).emb j) 0).val = (j 0).val := by
    show 0 + 1 * (j 0).val = _; omega
  rw [col_eq] at e1
  have hd : dOf ((rCol d o).emb j) = d := by
    unfold dOf; rw [e1]
    cases d
    · rw [if_neg Bool.false_ne_true]; exact decide_eq_false (by omega)
    · rw [if_pos rfl]; exact decide_eq_true (by omega)
  have h4 : (if d then 0 else 4096) = 0 ∨ (if d then 0 else 4096) = 4096 := by cases d <;> simp
  have hoo : oOf ((rCol d o).emb j) = o := Fin.ext (by show (((rCol d o).emb j) 1).val % 4096 / 2048 = o.val; rw [e1]; omega)
  have hj : jOf ((rCol d o).emb j) = j := by
    funext a
    fin_cases a
    · exact Fin.ext e0
    · exact Fin.ext (by show (((rCol d o).emb j) 1).val % 2048 = (j 1).val; rw [e1]; omega)
  unfold outY
  rw [hd, hoo, hj]

theorem chunks_join (c : Dev nD) : iprop(of X Wt Sx Sw c true 0 ∗ of X Wt Sx Sw c true 1 ∗ of X Wt Sx Sw c false 0 ∗ of X Wt Sx Sw c false 1)
    ⊢ (owns (c : Thread nD τ) a4 fullShare (outY X Wt Sx Sw c) : sProp 𝕄) := by
  refine BIBase.Entails.trans ?_ (out_join c _)
  rw [show (fun p : Bool × Fin 2 => (owns (c : Thread nD τ) (ocol p.1 p.2) fullShare (fun j => outY X Wt Sx Sw c ((rCol p.1 p.2).emb j)) : sProp 𝕄))
    = fun p => of X Wt Sx Sw c p.1 p.2 from funext fun p => congrArg _ (outY_emb X Wt Sx Sw c p.1 p.2),
    bigSep_univ_eq_bigSepL [(true, 0), (true, 1), (false, 0), (false, 1)] (by decide) (by decide), chain4]

end

end Cert.RingMatmul

end
-- ==== Proof.Deal.lean ====
/-
  What every device starts with, as lists over its steps: the duties it performs, the positions of its own cells, the
  slots it releases and takes over, the credit for what it waits for. Everything is minted at its owner and dealt to the
  device that uses it.
-/
module

public import proofs.«01_k».proof.Proof.Steps

@[expose] public section

set_option maxRecDepth 16384

noncomputable section

namespace Cert.RingMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slot slotInv readerAt released writeTok initSlots)

open Idealize.ShloMosaic.TalkSites (Pay tallyL tallyL_pos cred_tallyL bigSepL_perm)

variable {F : FTy → Type} [FloatOps F]

local notation "𝕄" => MT nD τ sig ℕ (Elt F) ℕ UU ℕ

variable (X : Dev nD → XT F) (Wt : Dev nD → WT F)

/-! ## Lists over the steps -/

/-- The duties a step performs: the cell's kind, the duty, whose cell (the device's own, or its neighbour's). -/
def duesE : Ev → List (CK × Fin 3 × Option Bool)
  | .sigB d => [(.bar, dnum d, some (!d))]
  | .send t => [(.snd t, 0, none), (.rcv t, 0, some (dir t))]
  | .sig d j => [(.cr d, j, some (!d))]
  | _ => []
/-- The cells a step waits for at once. -/
def posE : Ev → List CK
  | .wbar => [.bar]
  | .recv t => [.rcv t]
  | .wsnd t => [.snd t]
  | _ => []
/-- The slots a step releases, -/
def rdE : Ev → List (Bool × Fin 3)
  | .sig d j => [(d, j)]
  | _ => []
/-- and takes over. -/
def wtE : Ev → List (Bool × Fin 3)
  | .wcr d j => [(d, j)]
  | _ => []
/-- The units a step waits for: the cell's kind and the index they are owed at. -/
def crdE : Ev → List (CK × ℕ)
  | .wbar => [(.bar, 0), (.bar, 0)]
  | .recv t => [(.rcv t, 0)]
  | .wcr d j => [(.cr d, j.val)]
  | _ => []

abbrev dues : List (CK × Fin 3 × Option Bool) := evs.flatMap duesE
/-- Every duty of a device's own cells. -/
abbrev duties : List (CK × Fin 3) := dues.map fun p => (p.1, p.2.1)
abbrev reused : List (Bool × Fin 3) := [(true, 0), (true, 1), (true, 2), (false, 0), (false, 1), (false, 2)]
theorem duties_nodup : duties.Nodup := by decide +kernel
theorem cks_nodup : cks.Nodup := by decide +kernel
theorem pos_perm : cks.Perm (evs.flatMap posE ++ [CK.cr true, CK.cr false]) := by decide +kernel
theorem rd_perm : reused.Perm (evs.flatMap rdE) := by decide +kernel
theorem wt_perm : reused.Perm (evs.flatMap wtE) := by decide +kernel
theorem crd_perm : ((evs.filterMap pay).map fun p => (p.1, p.2.2)).Perm (evs.flatMap crdE) := by decide +kernel
theorem close_perm : (evs.filterMap closes).Perm cks := by decide +kernel

/-! ## Chains over lists -/

section Lists
variable {I J : Type}

theorem bigSepL_flatMap (l : List I) (f : I → List J) (Φ : J → sProp 𝕄) : bigSepL (l.flatMap f) Φ = bigSepL l fun i => bigSepL (f i) Φ := by
  induction l with
  | nil => rfl
  | cons i l ih => rw [List.flatMap_cons, bigSepL_append, ih, bigSepL_cons']

theorem bigSepL_both (l : List I) (Φ Ψ : I → sProp 𝕄) : iprop(bigSepL l Φ ∗ bigSepL l Ψ) ⊢ bigSepL l fun i => iprop(Φ i ∗ Ψ i) := by
  induction l with
  | nil => iintro ⟨H, -⟩; iexact H
  | cons i l ih =>
    rw [bigSepL_cons', bigSepL_cons', bigSepL_cons']
    iintro ⟨⟨H1, H2⟩, H3, H4⟩
    isplitl [H1 H3]
    · isplitl [H1] <;> iassumption
    iapply ih
    isplitl [H2] <;> iassumption

/-- What every device has a copy of may be dealt around the ring. -/
theorem deal (l : List I) (s : I → Dev nD ≃ Dev nD) (Φ : I → Dev nD → sProp 𝕄) :
    (bigSep Finset.univ fun c => bigSepL l fun i => Φ i c) = bigSep Finset.univ fun c => bigSepL l fun i => Φ i (s i c) := by
  induction l with
  | nil => rfl
  | cons i l ih =>
    simp only [bigSepL_cons']
    rw [bigSep_sep', bigSep_sep', ih, bigSep_univ_equiv (s i) (Φ i)]

end Lists

/-- A device or its neighbour. -/
def shift : Option Bool → (Dev nD ≃ Dev nD)
  | none => Equiv.refl _
  | some d => ring d

/-! ## What the steps use up, from the lists -/

theorem tok_of (c : Dev nD) (e : Ev) :
    iprop((bigSepL (duesE e) fun p => dutyTok ER (kcell (shift p.2.2 c, p.1)) 0 p.2.1) ∗ (bigSepL (posE e) fun k => atPos ER (kcell (c, k)) 0 ∅ 0)
      ∗ (bigSepL (rdE e) fun p => readerAt ES (c, p) 0) ∗ (bigSepL (wtE e) fun p => writeTok ES (nxt p.1 c, p) 1)
      ∗ bigSepL (crdE e) fun p => cred (tallyAt (kcell (c, p.1)) p.2 (amtK p.1)))
      ⊢ (tok c e : sProp 𝕄) := by
  cases e with
  | sigB d =>
    show iprop((dutyTok ER (kcell (frm d c, .bar)) 0 (dnum d)) ∗ emp ∗ emp ∗ emp ∗ emp) ⊢ dutyTok ER (kcell (frm d c, .bar)) 0 (dnum d)
    iintro ⟨H, -⟩; iexact H
  | wbar =>
    have e2 : (tallyAt (kcell (c, .bar)) 0 2 : CellTallies nD τ sig ℕ) = tallyAt (kcell (c, .bar)) 0 1 + tallyAt (kcell (c, .bar)) 0 1 :=
      (tallyAt_add _ _ 1 1).symm
    show iprop(emp ∗ (atPos ER (kcell (c, .bar)) 0 ∅ 0) ∗ emp ∗ emp ∗ cred (tallyAt (kcell (c, .bar)) 0 1) ∗ cred (tallyAt (kcell (c, .bar)) 0 1))
      ⊢ iprop(cred (tallyAt (kcell (c, .bar)) 0 2) ∗ atPos ER (kcell (c, .bar)) 0 ∅ 0)
    rw [e2]
    iintro ⟨-, Hp, -, -, Hc⟩
    isplitl [Hc]
    · iapply (cred_add _ _).2; iexact Hc
    iexact Hp
  | send t =>
    show iprop((dutyTok ER (kcell (c, .snd t)) 0 0 ∗ dutyTok ER (kcell (nxt (dir t) c, .rcv t)) 0 0) ∗ emp ∗ emp ∗ emp ∗ emp)
      ⊢ iprop(dutyTok ER (kcell (c, .snd t)) 0 0 ∗ dutyTok ER (kcell (nxt (dir t) c, .rcv t)) 0 0)
    iintro ⟨H, -⟩; iexact H
  | recv t =>
    show iprop(emp ∗ (atPos ER (kcell (c, .rcv t)) 0 ∅ 0) ∗ emp ∗ emp ∗ cred (tallyAt (kcell (c, .rcv t)) 0 (Nn t)))
      ⊢ iprop(cred (tallyAt (kcell (c, .rcv t)) 0 (Nn t)) ∗ atPos ER (kcell (c, .rcv t)) 0 ∅ 0)
    iintro ⟨-, Hp, -, -, Hc⟩; isplitl [Hc] <;> iassumption
  | wsnd t =>
    show iprop(emp ∗ (atPos ER (kcell (c, .snd t)) 0 ∅ 0) ∗ emp ∗ emp ∗ emp) ⊢ atPos ER (kcell (c, .snd t)) 0 ∅ 0
    iintro ⟨-, Hp, -⟩; iexact Hp
  | sig d j =>
    show iprop((dutyTok ER (kcell (frm d c, .cr d)) 0 j) ∗ emp ∗ (readerAt ES (c, d, j) 0) ∗ emp ∗ emp)
      ⊢ iprop(dutyTok ER (kcell (frm d c, .cr d)) 0 j ∗ readerAt ES (c, d, j) 0)
    iintro ⟨H, -, Hr, -⟩; isplitl [H] <;> iassumption
  | wcr d j =>
    show iprop(emp ∗ emp ∗ emp ∗ (writeTok ES (nxt d c, d, j) 1) ∗ cred (tallyAt (kcell (c, .cr d)) j.val 1))
      ⊢ iprop(cred (tallyAt (kcell (c, .cr d)) j.val 1) ∗ writeTok ES (nxt d c, d, j) 1)
    iintro ⟨-, -, -, Hw, Hc⟩; isplitl [Hc] <;> iassumption

/-- What a device is dealt, beside the credit. -/
def rides (c : Dev nD) : sProp 𝕄 :=
  iprop((bigSepL dues fun p => dutyTok ER (kcell (shift p.2.2 c, p.1)) 0 p.2.1) ∗ (bigSepL cks fun k => atPos ER (kcell (c, k)) 0 ∅ 0)
    ∗ (bigSepL reused fun p => readerAt ES (c, p) 0) ∗ bigSepL reused fun p => writeTok ES (nxt p.1 c, p) 1)
/-- The credit for all it waits for. -/
def credits (c : Dev nD) : sProp 𝕄 := bigSepL (evs.flatMap crdE) fun p => cred (tallyAt (kcell (c, p.1)) p.2 (amtK p.1))

theorem toks_of (c : Dev nD) : iprop(rides c ∗ credits c) ⊢ (iprop(bigSepL evs (tok c) ∗ crSt c true 0 ∗ crSt c false 0) : sProp 𝕄) := by
  unfold rides credits
  rw [bigSepL_perm pos_perm cks_nodup, bigSepL_append, bigSepL_perm rd_perm (by decide), bigSepL_perm wt_perm (by decide)]
  simp only [bigSepL_flatMap]
  iintro ⟨⟨H1, ⟨H2, Hcr⟩, H3, H4⟩, H5⟩
  isplitl [H1 H2 H3 H4 H5]
  · iapply (bigSepL_mono fun e _ => tok_of c e)
    iapply (bigSepL_both evs _ _); isplitl [H1]; · iexact H1
    iapply (bigSepL_both evs _ _); isplitl [H2]; · iexact H2
    iapply (bigSepL_both evs _ _); isplitl [H3]; · iexact H3
    iapply (bigSepL_both evs _ _); isplitl [H4] <;> iassumption
  have e (d : Bool) : atPos ER (kcell (c, .cr d)) 0 ∅ 0 ⊢ (crSt c d 0 : sProp 𝕄) := by
    unfold crSt
    iintro H
    iexists ∅
    isplitr; · ipureintro; exact Nat.zero_le _
    isplitl [H]; · iexact H
    rw [bigSep_empty]; iempintro
  have e2 : (bigSepL [CK.cr true, CK.cr false] fun k => atPos ER (kcell (c, k)) 0 ∅ 0)
      ⊢ (iprop(atPos ER (kcell (c, .cr true)) 0 ∅ 0 ∗ atPos ER (kcell (c, .cr false)) 0 ∅ 0) : sProp 𝕄) := by
    rw [bigSepL_cons', bigSepL_singleton]
  ihave Hcr := e2 $$ Hcr
  icases Hcr with ⟨H6, H7⟩
  isplitl [H6]
  · iapply (e true); iexact H6
  iapply (e false); iexact H7

/-- The control state at the start, -/
theorem Ctl_start (c : Dev nD) (W : Waits sig ℕ) :
    iprop(owes (c : Thread nD τ) (pays c evs) W ∗ bigSepL evs (tok c)) ⊢ (Ctl c (evs.drop 0) : sProp 𝕄) := by
  unfold Ctl
  iintro ⟨Ho, Ht⟩
  isplitl [Ho]; · iexists W; iexact Ho
  isplitl [Ht]; · iexact Ht
  iexists []
  isplitr; · ipureintro; exact List.Perm.refl _
  iempintro
/-- and at the end. -/
theorem Ctl_end (c : Dev nD) :
    (Ctl c (evs.drop 78) : sProp 𝕄) ⊢ iprop((∃ W, owes (c : Thread nD τ) 0 W) ∗ bigSepL cks fun k => semVal (kcell (c, k)) 0) := by
  unfold Ctl
  rw [show evs.drop 78 = [] from rfl]
  iintro ⟨Ho, -, %z, %hz, Hz⟩
  isplitl [Ho]; · iexact Ho
  rw [List.filterMap_nil, List.append_nil] at hz
  iapply (Entails.of_eq (bigSepL_perm (hz.trans close_perm) ((hz.trans close_perm).nodup_iff.mpr cks_nodup) (fun k => (semVal (kcell (c, k)) 0 : sProp 𝕄))))
  iexact Hz

/-! ## The credit of the launch -/

theorem tallyL_perm {l l' : List (Pay nD τ sig)} (h : l.Perm l') : tallyL l = tallyL l' := by
  induction h with
  | nil => rfl
  | cons x _ ih => rw [tallyL, tallyL, ih]
  | swap x y l => rw [tallyL, tallyL, tallyL, tallyL, add_left_comm]
  | trans _ _ h1 h2 => exact h1.trans h2

/-- What is owed to device `c`'s cells, as a list, -/
def due (c : Dev nD) (l : List (CK × ℕ)) : CellTallies nD τ sig ℕ := tallyL (l.map fun p => (kcell (c, p.1), p.2, amtK p.1))

theorem sum_pays (l : List Ev) : (∑ c : Dev nD, pays c l) = ∑ c : Dev nD, due c ((l.filterMap pay).map fun p => (p.1, p.2.2)) := by
  induction l with
  | nil => exact Finset.sum_congr rfl fun _ _ => rfl
  | cons e l ih =>
    cases h : pay e with
    | none => rw [Finset.sum_congr rfl fun c _ => pays_cons_none c l h, ih, List.filterMap_cons_none h]
    | some p =>
      rw [Finset.sum_congr rfl fun c _ => pays_cons_some c l h, Finset.sum_add_distrib, ih, List.filterMap_cons_some h,
        show (∑ c : Dev nD, (tallyAt (kcell (nxt p.2.1 c, p.1)) p.2.2 (amtK p.1) : CellTallies nD τ sig ℕ)) = ∑ c : Dev nD, tallyAt (kcell (c, p.1)) p.2.2 (amtK p.1) from
          Equiv.sum_comp (ring p.2.1) fun c => (tallyAt (kcell (c, p.1)) p.2.2 (amtK p.1) : CellTallies nD τ sig ℕ),
        ← Finset.sum_add_distrib]
      exact Finset.sum_congr rfl fun c _ => add_comm _ _

theorem due_at (l : List (CK × ℕ)) (c : Dev nD) (g : GSem nD τ sig) (h : due c l g ≠ 0) : g.1 = (c.tc : Thread nD τ) := by
  have h1 : ∃ u, 0 < due c l g u := by
    by_contra hn
    refine h (Finsupp.ext fun u => ?_)
    have := not_exists.mp hn u
    exact Nat.eq_zero_of_not_pos this
  obtain ⟨u, hu⟩ := h1
  obtain ⟨x, hx, h2, -⟩ := tallyL_pos hu
  obtain ⟨p, -, rfl⟩ := List.mem_map.mp hx
  rw [h2]

theorem credits_intro (c : Dev nD) : Pipeline.launchCred (fun d => pays d evs) c ⊢ (credits c : sProp 𝕄) := by
  have hsum : (∑ d : Dev nD, pays d evs) = ∑ d : Dev nD, due d (evs.flatMap crdE) :=
    (sum_pays evs).trans (Finset.sum_congr rfl fun d _ => tallyL_perm (crd_perm.map _))
  rw [Pipeline.launchCred_of_sum (fun d => pays d evs) (fun d => due d (evs.flatMap crdE)) hsum (due_at _) c]
  unfold credits due
  rw [cred_tallyL, bigSepL_map]

end Cert.RingMatmul

end
-- ==== Proof.Setup.lean ====
/-
  The launch's data: the arrays as found, what the body leaves in each window, what it holds before and after, and the
  obligation on the body, discharged by `body_run`.
-/
module

public import proofs.«01_k».proof.Proof.Glue
public import proofs.«01_k».proof.Proof.Deal
public import proofs.«01_k».proof.Proof.Gen.KernelIdeal.Frame
public import proofs.«01_k».proof.Proof.Gen.KernelIdeal.Launch
public import Idealize.ShloMosaic.Lib.Pipeline.Launch

@[expose] public section

set_option maxRecDepth 16384

noncomputable section

namespace Cert.RingMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Release (slot)

variable {F : FTy → Type} [FloatOps F]
open Idealize.ShloMosaic.Rounds
open Idealize.ShloMosaic.Pipeline (Dat Cfg Window BodyObligation cellOf)

local notation "𝕄" => MT nD τ sig ℕ (Elt F) ℕ UU ℕ

variable (m : (ℓ : Loc nD τ sig) → Buf (Elt F) ℓ) (ρ : Dev nD → PrngReg)

/-! ## Contents -/

/-- The input blocks as the body finds them. -/
def inX (c : Dev nD) : XT F := iblk m c 0 t0_0
def inW (c : Dev nD) : WT F := iblk m c 1 t0_0
def inSx (c : Dev nD) : S1.Idx → F .f32 := iblk m c 2 t0_0
def inSw (c : Dev nD) : S1.Idx → F .f32 := iblk m c 3 t0_0
/-- The result block. -/
abbrev result (c : Dev nD) : S512x8192.Idx → F .f32 := outY (inX m) (inW m) (inSx m) (inSw m) c

/-- What the launch gives device `c`, beside the scratch buffers: the records, its share of the ghost state, the credit. -/
def start (c : Dev nD) : sProp 𝕄 := iprop(∃ K Ks, Rec (inX m) (inW m) K Ks ∗ rides c ∗ credits c)
def Φ₀ (c : Dev nD) : sProp 𝕄 := iprop(start m c ∗ Pipeline.scopedRest (Ix := ℕ) (Name := ℕ) (U := UU) (Lvl := ℕ) (Val := Elt F) spec0 c)
/-- Afterwards: the scratch buffers again, every cell's counter at zero. -/
def Φ₁ (c : Dev nD) : sProp 𝕄 :=
  iprop(Pipeline.scopedRest (Ix := ℕ) (Name := ℕ) (U := UU) (Lvl := ℕ) (Val := Elt F) spec0 c ∗ bigSepL cks fun k => semVal (kcell (c, k)) 0)

def dats (_ : Fin 1) (c : Dev nD) : Dat τ (Elt F) ℕ ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => result m c
  Φ t := match t with
    | ⟨0, _⟩ => Φ₀ m c
    | ⟨_ + 1, _⟩ => Φ₁ c
  q _ := fullShare
  owed t := match t with
    | ⟨0, _⟩ => pays c evs
    | ⟨_ + 1, _⟩ => 0

/-- An input window's block, before the body. -/
theorem before_0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem before_1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl
theorem before_2 (c : Dev nD) (t : Fin cfg0.N) (d) : (dats m 0 c).before 2 t d = iblk m c 2 t :=
  ((dats m 0 c).before_in_eq_fetched 2 rfl (fun _ => rfl) (fun _ _ _ => rfl) (fun _ => rfl) t d).trans rfl
theorem before_3 (c : Dev nD) (t : Fin cfg0.N) (d) : (dats m 0 c).before 3 t d = iblk m c 3 t :=
  ((dats m 0 c).before_in_eq_fetched 3 rfl (fun _ => rfl) (fun _ _ _ => rfl) (fun _ => rfl) t d).trans rfl

/-! ## The body -/

def bodyPre (c : Dev nD) : sProp 𝕄 :=
  iprop(Φ₀ m c ∗ (dats m 0 c).owesAt 0 t0_0.castSucc
    ∗ (∃ d, owns (c : Thread nD τ) a0 fullShare ((dats m 0 c).before (0 : Fin 5) t0_0 d)) ∗ (∃ d, owns (c : Thread nD τ) a1 fullShare ((dats m 0 c).before (1 : Fin 5) t0_0 d))
    ∗ (∃ d, owns (c : Thread nD τ) a2 fullShare ((dats m 0 c).before (2 : Fin 5) t0_0 d)) ∗ (∃ d, owns (c : Thread nD τ) a3 fullShare ((dats m 0 c).before (3 : Fin 5) t0_0 d))
    ∗ (∃ d, owns (c : Thread nD τ) a4 fullShare ((dats m 0 c).before (4 : Fin 5) t0_0 d)))
def bodyPost (c : Dev nD) : sProp 𝕄 :=
  iprop(Φ₁ c ∗ (dats m 0 c).owesAt 0 t0_0.succ
    ∗ owns (c : Thread nD τ) a0 fullShare (inX m c) ∗ owns (c : Thread nD τ) a1 fullShare (inW m c)
    ∗ owns (c : Thread nD τ) a2 fullShare (inSx m c) ∗ owns (c : Thread nD τ) a3 fullShare (inSw m c) ∗ owns (c : Thread nD τ) a4 fullShare (result m c))

theorem body_sound (c : Dev nD) : bodyPre m c ⊢ run c (onArgs (cc0_body (F := F))) fun _ => bodyPost m c := by
  unfold bodyPre Φ₀ start Dat.owesAt Pipeline.owesWithin
  simp only [before_0, before_1, before_2, before_3]
  iintro ⟨⟨⟨%K, %Ks, #HR, Hrides, Hcred⟩, Hscr⟩, ⟨%W, %hW, HO⟩, ⟨%d0, H0⟩, ⟨%d1, H1⟩, ⟨%d2, H2⟩, ⟨%d3, H3⟩, ⟨%d4, H4⟩⟩
  ihave Ht := (toks_of c) $$ [Hrides Hcred]
  · isplitl [Hrides] <;> iassumption
  icases Ht with ⟨Ht, Ct, Cf⟩
  ihave HC := (Ctl_start c W) $$ [HO Ht]
  · isplitl [HO]; · iexact HO
    iexact Ht
  ihave Hs := (scratch_out c) $$ Hscr
  icases Hs with ⟨Lt, Lf, R3, R4⟩
  ihave Hi := (ins_of (inX m) (inW m) (inSx m) (inSw m) c) $$ [H0 H1 H2 H3]
  · isplitl [H0]; · iexact H0
    isplitl [H1]; · iexact H1
    isplitl [H2]; · iexact H2
    iexact H3
  ihave Ho := (chunks4 c _) $$ H4
  ihave Ft := (show (iprop(emp) : sProp 𝕄) ⊢ freed true 0 c from freed_zero true c) $$ []
  · iempintro
  ihave Ff := (show (iprop(emp) : sProp 𝕄) ⊢ freed false 0 c from freed_zero false c) $$ []
  · iempintro
  iapply (body_run (inX m) (inW m) (inSx m) (inSw m) K Ks c (fun _ => bodyPost m c)) $$ [HC Lt Lf Hi R3 R4 Ho Ft Ff Ct Cf]
  · unfold before
    iframe HR HC Lt Lf Hi R3 R4 Ho Ft Ff Ct Cf
  iintro ⟨HC, Lt, Lf, Hi, Ha⟩
  unfold after bodyPost Φ₁ Dat.owesAt Pipeline.owesWithin
  icases Ha with ⟨S3, S4, Ho⟩
  ihave HC := (Ctl_end c) $$ HC
  icases HC with ⟨⟨%W', HO⟩, Hz⟩
  isplitl [Lt Lf S3 S4 Hz]
  · isplitl [Lt Lf S3 S4]
    · iapply (scratch_in (inX m) (inW m) c); iframe Lt Lf S3 S4
    iexact Hz
  isplitl [HO]
  · iexists W'
    isplitr; · ipureintro; exact fun _ _ => Or.inl trivial
    iexact HO
  ihave Hi := (of_ins (inX m) (inW m) (inSx m) (inSw m) c) $$ Hi
  icases Hi with ⟨H0, H1, H2, H3⟩
  isplitl [H0]; · iexact H0
  isplitl [H1]; · iexact H1
  isplitl [H2]; · iexact H2
  isplitl [H3]; · iexact H3
  iapply (chunks_join (inX m) (inW m) (inSx m) (inSw m) c); iexact Ho

/-- The obligation on the body of core `c`. -/
theorem body_obligation (c : Dev nD) : BodyObligation (dats (F := F) m 0 c) (defs₀ (F := F)) 𝒱₀ 0 Set.univ := fun t => by
  rw [fin_N0 t]
  rw [bigSep_W0, bigSep_W0]
  exact body_sound m c

end Cert.RingMatmul

end
-- ==== Proof.Launch.lean ====
/-
  The launch: the ghost state minted and dealt around the ring, the invariants allocated for every device at once, and
  the run of the program.
-/
module

public import proofs.«01_k».proof.Proof.Setup
public import Idealize.ShloMosaic.Lib.Pipeline.Kit
public import Idealize.ShloMosaic.Lib.Pipeline.CollectiveSegs

@[expose] public section

set_option maxRecDepth 16384

noncomputable section

namespace Cert.RingMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Release (slot)

open Idealize.ShloMosaic.Rounds
open Idealize.ShloMosaic.Release (USlots slotInv readerAt released writeTok initSlots slots_init)
open Idealize.ShloMosaic.Pipeline (Dat Cfg Window BodyObligation cellOf)

variable {F : FTy → Type} [FloatOps F]

local notation "𝕄" => MT nD τ sig ℕ (Elt F) ℕ UU ℕ

/-! ## The semaphores -/

/-- The kernel's own semaphores: all but the runtime's barrier. -/
abbrev own : List CK := CK.cr true :: CK.cr false :: (trs.map CK.snd ++ trs.map CK.rcv)
theorem own_length : own.length = 44 := by decide
abbrev osem (i : Fin 44) : SemLoc sig := csem (own.get (i.cast own_length.symm))
theorem ownSemFacts : Pipeline.OwnSemFacts cfg0.spec osem := by decide +kernel
theorem own_list : (List.finRange 44).map (fun i : Fin 44 => own.get (i.cast own_length.symm)) = own := by decide +kernel

theorem ownSems0_eq (c : Dev nD) : (Pipeline.ownSems0 (Ix := ℕ) (Name := ℕ) (U := UU) (Lvl := ℕ) (Val := Elt F) (τ := τ) osem c : sProp 𝕄)
    = bigSepL own fun k => semVal (kcell (c, k)) 0 := by
  rw [Pipeline.ownSems0_eq_of_list c osem (List.finRange 44) (by decide) (by decide)]
  conv_rhs => rw [← own_list, bigSepL_map]
theorem unscopedSems0_eq (c : Dev nD) : (unscopedSems0 c : sProp 𝕄) = semVal (kcell (c, .bar)) 0 := by
  unfold unscopedSems0; rw [bigSep_eq_bigSepL_of_eq [SemLoc.reg barS] (by decide) (by decide)]; rfl
theorem sems0_eq (c : Dev nD) :
    (bigSepL cks fun k => semVal (kcell (c, k)) 0 : sProp 𝕄)
      = iprop(unscopedSems0 c ∗ Pipeline.ownSems0 (Ix := ℕ) (Name := ℕ) (U := UU) (Lvl := ℕ) (Val := Elt F) (τ := τ) osem c) := by
  rw [ownSems0_eq, unscopedSems0_eq]; exact bigSepL_cons' _ _ _
theorem cks_univ : (Finset.univ : Finset CK) = cks.toFinset := rfl
theorem reused_univ : (Finset.univ : Finset (Bool × Fin 3)) = reused.toFinset := by decide

/-! ## The launch element -/

def ringCells : Finset (GSem nD τ sig) := Finset.univ.map ⟨kcell, kcell_injective⟩
def tokOf (x : Σ _ : Dev nD, CK × Fin 3) : GSem nD τ sig × ℕ × Fin 3 := (kcell (x.1, x.2.1), 0, x.2.2)
theorem tokOf_injective : Function.Injective tokOf := by
  rintro ⟨c, k, j⟩ ⟨c', k', j'⟩ h
  have h1 := kcell_injective (congrArg Prod.fst h)
  have h2 : j = j' := congrArg (fun x : GSem nD τ sig × ℕ × Fin 3 => x.2.2) h
  cases h1; cases h2; rfl
/-- The tokens of every duty of every cell. -/
def ringToks : Finset (GSem nD τ sig × ℕ × Fin 3) := (Finset.univ.sigma fun _ => duties.toFinset).map ⟨tokOf, tokOf_injective⟩
def u₀ : UU := (initOf (Pipeline.cells cfgs cellOf_inj) (Pipeline.launchToks cfgs cellOf_inj), (initOf ringCells ringToks, initSlots Finset.univ 1))

variable (m : (ℓ : Loc nD τ sig) → Buf (Elt F) ℓ) (ρ : Dev nD → PrngReg)

/-- The slots' invariants, at some names. -/
def slots : sProp 𝕄 := iprop(∃ Ks : SK → ℕ, bigSep Finset.univ fun k : SK => slotInv ES (Ks k) k (landing (slotT k.2.1 k.2.2) k.1))
instance slots_persistent : BI.Persistent (slots (F := F)) := by unfold slots; infer_instance

/-- What of the launch element is device `c`'s: its cells' states, its positions, its cells' duties, its slots. -/
def G (c : Dev nD) : sProp 𝕄 :=
  iprop((bigSep Finset.univ fun k => roundState ER (Rd (inX m) (inW m)) (kcell (c, k)) 0) ∗ (bigSep Finset.univ fun k => reached ER (kcell (c, k)) 0)
    ∗ (bigSepL cks fun k => atPos ER (kcell (c, k)) 0 ∅ 0) ∗ (bigSepL duties fun p => dutyTok ER (kcell (c, p.1)) 0 p.2)
    ∗ slots ∗ (bigSepL reused fun p => readerAt ES (c, p) 0) ∗ bigSepL reused fun p => writeTok ES (c, p) 1)

theorem fund_ring : (BI.own (ER (initOf ringCells ringToks)) : sProp 𝕄)
    ⊢ |==> iprop((bigSep Finset.univ fun c : Dev nD => bigSep Finset.univ fun k => roundState ER (Rd (inX m) (inW m)) (kcell (c, k)) 0)
        ∗ (bigSep Finset.univ fun c : Dev nD => bigSep Finset.univ fun k => reached ER (kcell (c, k)) 0)
        ∗ (bigSep Finset.univ fun c : Dev nD => bigSepL cks fun k => atPos ER (kcell (c, k)) 0 ∅ 0)
        ∗ (bigSep Finset.univ fun c : Dev nD => bigSepL duties fun p => dutyTok ER (kcell (c, p.1)) 0 p.2)) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄))
      = bigSep Finset.univ fun c : Dev nD => bigSepL duties fun p => dutyTok ER (kcell (c, p.1)) 0 p.2 := by
    unfold ringToks
    rw [bigSep_map, Pipeline.bigSep_sigma]
    exact bigSep_congr fun c _ => bigSep_eq_bigSepL_of_eq duties rfl duties_nodup _
  have hP : (bigSep Finset.univ fun c : Dev nD => bigSep Finset.univ fun k : CK => (atPos ER (kcell (c, k)) 0 ∅ 0 : sProp 𝕄))
      = bigSep Finset.univ fun c : Dev nD => bigSepL cks fun k => atPos ER (kcell (c, k)) 0 ∅ 0 :=
    bigSep_congr fun c _ => bigSep_eq_bigSepL_of_eq cks cks_univ cks_nodup _
  have h := Rounds.fund ER (Rd (inX m) (inW m)) ringCells ringToks
  rw [hX, hX, hX, hT, hP] at h
  exact h

theorem fund_slots : (BI.own (ES (initSlots Finset.univ 1)) : sProp 𝕄)
    ⊢ |={Set.univ}=> iprop(slots ∗ (bigSep Finset.univ fun c : Dev nD => bigSepL reused fun p => readerAt ES (c, p) 0)
        ∗ (bigSep Finset.univ fun c : Dev nD => bigSepL reused fun p => writeTok ES (c, p) 1)) := by
  have hr (Φ : SK → sProp 𝕄) : bigSep Finset.univ Φ = bigSep Finset.univ fun c : Dev nD => bigSepL reused fun p => Φ (c, p) := by
    rw [bigSep_univ_prod]
    exact bigSep_congr fun c _ => bigSep_eq_bigSepL_of_eq reused reused_univ (by decide) _
  have hw : bigSep ((Finset.univ : Finset SK) ×ˢ Finset.range 1) (fun x => (writeTok ES x.1 (x.2 + 1) : sProp 𝕄))
      = bigSep Finset.univ fun c : Dev nD => bigSepL reused fun p => writeTok ES (c, p) 1 := by
    rw [Finset.range_one, Finset.product_singleton, bigSep_map, hr]; rfl
  iintro H
  imod (slots_init ES Finset.univ 1 (fun k : SK => landing (F := F) (slotT k.2.1 k.2.2) k.1)) $$ H with ⟨%Ks, -, Hs, Hr, Hw⟩
  imodintro
  isplitl [Hs]
  · unfold slots; iexists Ks; iexact Hs
  isplitl [Hr]
  · iapply (Entails.of_eq (hr fun k => readerAt ES k 0)); iexact Hr
  iapply (Entails.of_eq hw); iexact Hw

theorem fund_all : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave H := (own_pair_emb embR _ _) $$ HX
  icases H with ⟨HX, HS⟩
  imod (fund_ring m) $$ HX with ⟨H1, H2, H3, H4⟩
  imod fund_slots $$ HS with ⟨#H5, H6, H7⟩
  imodintro
  isplitl [HP]; · iexact HP
  unfold G
  simp only [bigSep_sep']
  isplitl [H1]; · iexact H1
  isplitl [H2]; · iexact H2
  isplitl [H3]; · iexact H3
  isplitl [H4]; · iexact H4
  isplitr [H6 H7]
  · iapply (BI.bigSep_of_persistent Finset.univ slots); iexact H5
  isplitl [H6] <;> iassumption

/-! ## The global step -/

/-- What every device knows but for the levels. -/
def rec0 (K : Dev nD × CK → ℕ) : sProp 𝕄 :=
  iprop((bigSep Finset.univ fun ck => cellInv ER (Rd (inX m) (inW m)) (K ck) (kcell ck)) ∗ (bigSep Finset.univ fun ck => reached ER (kcell ck) 0) ∗ slots)
instance rec0_persistent (K : Dev nD × CK → ℕ) : BI.Persistent (rec0 m K) := by unfold rec0; infer_instance
def G' (c : Dev nD) : sProp 𝕄 := iprop(∃ K, rec0 m K ∗ rides c)

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd (inX m) (inW m)) κ (kcell (c, k))))
        ∗ (bigSep Finset.univ fun k => reached ER (kcell (c, k)) 0)
        ∗ (bigSepL cks fun k => atPos ER (kcell (c, k)) 0 ∅ 0) ∗ (bigSepL duties fun p => dutyTok ER (kcell (c, p.1)) 0 p.2)
        ∗ slots ∗ (bigSepL reused fun p => readerAt ES (c, p) 0) ∗ bigSepL reused fun p => writeTok ES (c, p) 1) := by
  unfold G
  iintro ⟨Hos, Hus, Hst, Hrest⟩
  ihave Hv := ((Entails.of_eq (sems0_eq (F := F) c).symm).trans (Entails.of_eq (bigSep_eq_bigSepL_of_eq cks cks_univ cks_nodup _).symm)) $$ [Hos Hus]
  · isplitl [Hus] <;> iassumption
  imod (show iprop((bigSep Finset.univ fun k : CK => semVal (kcell (c, k)) 0) ∗ bigSep Finset.univ fun k => roundState ER (Rd (inX m) (inW m)) (kcell (c, k)) 0)
      ⊢ (|={Set.univ}=> bigSep Finset.univ fun k => iprop(∃ κ : ℕ, cellInv ER (Rd (inX m) (inW m)) κ (kcell (c, k))) : sProp 𝕄) from by
        rw [← bigSep_sep']
        exact (bigSep_mono fun k _ => (Rounds.body_intro ER (Rd (inX m) (inW m)) (kcell (c, k))).trans inv_alloc).trans (bigSep_fupd _ _)) $$ [Hv Hst] with Hinv
  · isplitl [Hv] <;> iassumption
  imodintro
  isplitl [Hinv]; · iexact Hinv
  iexact Hrest

/-- A device's cells' duties and its slots' tokens go to the devices that use them. -/
theorem dealt : iprop((bigSep Finset.univ fun c : Dev nD => bigSepL cks fun k => atPos ER (kcell (c, k)) 0 ∅ 0)
      ∗ (bigSep Finset.univ fun c : Dev nD => bigSepL duties fun p => dutyTok ER (kcell (c, p.1)) 0 p.2)
      ∗ (bigSep Finset.univ fun c : Dev nD => bigSepL reused fun p => readerAt ES (c, p) 0)
      ∗ bigSep Finset.univ fun c : Dev nD => bigSepL reused fun p => writeTok ES (c, p) 1)
    ⊢ (bigSep Finset.univ fun c : Dev nD => rides c : sProp 𝕄) := by
  have hd : (bigSep Finset.univ fun c : Dev nD => bigSepL duties fun p => (dutyTok ER (kcell (c, p.1)) 0 p.2 : sProp 𝕄))
      = bigSep Finset.univ fun c : Dev nD => bigSepL dues fun p => dutyTok ER (kcell (shift p.2.2 c, p.1)) 0 p.2.1 := by
    rw [← deal dues (fun p => shift p.2.2) (fun p c => dutyTok ER (kcell (c, p.1)) 0 p.2.1)]
    exact bigSep_congr fun c _ => bigSepL_map _ _ _
  have hw : (bigSep Finset.univ fun c : Dev nD => bigSepL reused fun p => (writeTok ES (c, p) 1 : sProp 𝕄))
      = bigSep Finset.univ fun c : Dev nD => bigSepL reused fun p => writeTok ES (nxt p.1 c, p) 1 :=
    deal reused (fun p => ring p.1) (fun p c => writeTok ES (c, p) 1)
  rw [hd, hw]
  unfold rides
  simp only [bigSep_sep']
  iintro ⟨H1, H2, H3, H4⟩
  isplitl [H2]; · iexact H2
  isplitl [H1]; · iexact H1
  isplitl [H3] <;> iassumption

/-- A record goes with each of a family's resources. -/
theorem share_out {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem regroup :
    (bigSep Finset.univ fun c : Dev nD => iprop((bigSep Finset.univ fun k => iprop(∃ κ : ℕ, cellInv ER (Rd (inX m) (inW m)) κ (kcell (c, k))))
        ∗ (bigSep Finset.univ fun k => reached ER (kcell (c, k)) 0)
        ∗ (bigSepL cks fun k => atPos ER (kcell (c, k)) 0 ∅ 0) ∗ (bigSepL duties fun p => dutyTok ER (kcell (c, p.1)) 0 p.2)
        ∗ slots ∗ (bigSepL reused fun p => readerAt ES (c, p) 0) ∗ bigSepL reused fun p => writeTok ES (c, p) 1) : sProp 𝕄)
      ⊢ bigSep Finset.univ (G' m) := by
  rw [bigSep_sep', bigSep_sep', bigSep_sep', bigSep_sep', bigSep_sep', bigSep_sep',
    ← bigSep_univ_prod (fun ck : Dev nD × CK => iprop(∃ κ : ℕ, cellInv ER (Rd (inX m) (inW m)) κ (kcell ck))),
    ← bigSep_univ_prod (fun ck : Dev nD × CK => (reached ER (kcell ck) 0 : sProp 𝕄))]
  iintro ⟨HI, #HR, Hat, Hd, #Hs, Hr, Hw⟩
  ihave HK := (BI.bigSep_exists_pi Finset.univ (fun (ck : Dev nD × CK) (κ : ℕ) => (cellInv ER (Rd (inX m) (inW m)) κ (kcell ck) : sProp 𝕄))) $$ HI
  icases HK with ⟨%K, #HI⟩
  iapply (share_out (R := rec0 m K) (Φ := rides) fun c => show iprop(rec0 m K ∗ rides c) ⊢ G' m c from by
    unfold G'; iintro ⟨H1, H2⟩; iexists K; isplitl [H1] <;> iassumption)
  isplitr
  · unfold rec0
    isplitr; · iexact HI
    isplitr; · iexact HR
    iapply (show (bigSep Finset.univ fun _ : Dev nD => slots (F := F)) ⊢ slots from bigSep_elim (Finset.mem_univ (0 : Dev nD)))
    iexact Hs
  iapply (dealt (F := F))
  isplitl [Hat]; · iexact Hat
  isplitl [Hd]; · iexact Hd
  isplitl [Hr] <;> iassumption

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred (fun d => pays d evs) c ∗ prngReg c (ρ c) ∗ G' m c)
      ⊢ |={Set.univ}=> iprop(start m c ∗ emp) := by
  unfold G' rec0 slots
  iintro ⟨-, #Hlev, Hcr, -, %K, ⟨#HI, #HR, %Ks, #Hs⟩, Hr⟩
  ihave Hc := (credits_intro (F := F) c) $$ Hcr
  imodintro
  unfold start Rec
  isplitl
  · iexists K; iexists Ks
    isplitr
    · isplitr; · iexact HI
      isplitr; · iexact HR
      isplitr; · iexact Hlev
      iexact Hs
    isplitl [Hr] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  show _ ⊢ Φ₀ m c
  unfold Φ₀
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  show Φ₁ c ⊢ _
  unfold Φ₁
  rw [sems0_eq]
  iintro ⟨Hr, Hu, Ho⟩
  isplitl [Hu]; · iexact Hu
  isplitl [Ho]; · iexact Ho
  iexact Hr

/-- The pipeline's own waits stand below everything. -/
theorem stage_level : ∀ (w : Fin 5) (s : Fin (spec0 w).nbuf), above ((dec (.dma ((spec0 w).sem s))).elim 0 fun k => lvK k 0) evs = true := by decide +kernel

theorem waits (c : Dev nD) : (levAts L lv : sProp 𝕄) ⊢ Pipeline.cellsWaits cfgs (dats m) 0 0 c :=
  Pipeline.cellsWaits_intro cfgs (dats m) 0 0 c fun w s t => by
    rcases t with ⟨_ | _, ht⟩
    · refine mayWait_of c _ 0 (by decide) evs ?_
      have h := stage_level w s
      have e : lv ((c : Thread nD τ), .dma ((spec0 w).sem s)) 0 = (dec (.dma ((spec0 w).sem s))).elim 0 fun k => lvK k 0 := by
        unfold lv
        cases dec (.dma ((spec0 w).sem s)) <;> rfl
      exact (congrArg (fun i => above i evs) e).trans h
    · show _ ⊢ MayWait (c : Thread nD τ) _ 0 0
      rw [MayWait_zero]
      iintro -; iempintro

theorem share_eq (c : Dev nD) (w : Fin cfg0.W) : (dats m 0 c).share w = fullShare := by unfold Dat.share; split <;> rfl

/-! ## The run -/

/-- What an array holds at the end. -/
def finalA (c : Dev nD) (w : Fin cfg0.W) : Buf (Elt F) ((cfg0.win w).arr.view.loc (c : Thread nD τ)) := (dats m 0 c).arrAt w cfg0.N

/-- From any memory with zero counters, for any float values: the program ends, every array at its final contents, every
    counter at zero. -/
theorem run_main : θ_run defs (onTc (τ := τ) (main (F := F))) ⟨m, fun _ => 0, ρ⟩
    (fun r => (∀ (c : Dev nD) (w : Fin cfg0.W), r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := fun d => pays d evs) (howed₀ := fun _ => rfl) (howedN := fun _ => rfl)
    (L := L) (lv := lv) (hL := L_of_ne) (hwaits := waits m)
    (G := G m) (G' := G' m) (u₀ := u₀)
    (hu₀ := fund_all m)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input array is as it was. -/
theorem final_in (c : Dev nD) (w : Fin 5) (h : (cfg0.win w).isOut = false) : finalA m c w = V m c (Pipeline.arrRef spec0 w) :=
  (dats (F := F) m 0 c).arrAt_in w h _

end Cert.RingMatmul

end
-- ==== Proof.Same.lean ====
/-
  The kernel and its idealization are one text: the two programs are equal at any float values, so the run of the one is
  the run of the other.
-/
module

public import proofs.«01_k».proof.Defs
public import proofs.«01_k».proof.Proof.Gen.Kernel
public import proofs.«01_k».proof.Proof.Launch

@[expose] public section

set_option maxRecDepth 16384

noncomputable section

namespace Cert.RingMatmul

open Idealize.ShloMosaic Idealize.SL.Sem

variable {F : FTy → Type} [FloatOps F]

theorem body_same : @Cert.Kernel.cc0_body F _ Cert.Kernel.Gen.facts = @Cert.KernelIdeal.cc0_body F _ Cert.KernelIdeal.Gen.facts := rfl

theorem bodies_same : @Cert.Kernel.defs₀ F _ Cert.Kernel.Gen.facts = @Cert.KernelIdeal.defs₀ F _ Cert.KernelIdeal.Gen.facts := by
  unfold Cert.Kernel.defs₀ Cert.KernelIdeal.defs₀
  refine congrArg (Defs.onTc (nD := Cert.KernelIdeal.nD) (τ := Cert.KernelIdeal.τ) (Λ := Cert.KernelIdeal.Λ₀)) ?_
  funext l a
  obtain ⟨_ | n, h⟩ := l
  · obtain ⟨t, s⟩ := a
    dsimp only
    rw [body_same]
  · exact absurd h (Nat.not_lt.2 (Nat.le_add_left _ _))

theorem defs_same : @Cert.Kernel.defs F _ Cert.Kernel.Gen.facts = @Cert.KernelIdeal.defs F _ Cert.KernelIdeal.Gen.facts :=
  congrArg (Pipeline.defs (Cert.KernelIdeal.pcfgs (F := F))) bodies_same

/-- What ends holding of the one program's runs ends holding of the other's. -/
theorem run_same {s : MemSt Cert.KernelIdeal.nD Cert.KernelIdeal.τ Cert.KernelIdeal.sig (Elt F)}
    {Q : PUnit × MemSt Cert.KernelIdeal.nD Cert.KernelIdeal.τ Cert.KernelIdeal.sig (Elt F) → Prop}
    (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q := by
  rw [defs_same]; exact h

end Cert.RingMatmul

end
-- ==== Proof.Sums.lean ====
/-
  What the kernel's result is over the reals: at every element the sum over the devices of the products of their tiles of
  `x` with their weights, scaled, through the gate.
-/
module

public import proofs.«01_k».proof.Proof.Glue
public import Idealize.ShloMosaic.Lib.MatmulPlain
public import Idealize.ShloMosaic.Lib.Pipeline.Value
public import Mathlib.Algebra.BigOperators.Fin

@[expose] public section

set_option maxRecDepth 16384

noncomputable section

namespace Cert.RingMatmul

open Cert.KernelIdeal Cert.KernelIdeal.Gen
open Idealize.ShloMosaic Idealize.ShloMosaic.ValueIdx
open scoped BigOperators

variable {F : FTy → Type} [FloatOps F]

/-! ## The gate -/

/-- `y / (1 + exp (-clip y))`, the clip at 60 both ways. -/
def gate (y : F .f32) : F .f32 :=
  FloatOps.divf y (FloatOps.addf (FloatOps.ofBits .f32 0x3F800000#32) (FloatOps.exp (FloatOps.subf (FloatOps.ofBits .f32 0x00000000#32)
    (FloatOps.minimumf (FloatOps.ofBits .f32 0x42700000#32) (FloatOps.maximumf (FloatOps.ofBits .f32 0xC2700000#32) y)))))

theorem epi_apply (v : F .f32) (a : FVec F S512x2048 .f32) (j : S512x2048.Idx) : epi v a j = gate (FloatOps.mulf (a j) v) := rfl

/-! ## The tiles -/

theorem tile_eq (x : XT F) (d : Bool) (c : Dev nD) :
    shapeCast S512x512 (stk (n := 1) x d c) shapeCasts_S1x512x512_S512x512 = xP x c := by
  funext j
  refine (shapeCast_dropUnit_apply ![512, 512] (stk (n := 1) x d c) shapeCasts_S1x512x512_S512x512 j).trans ?_
  show xP x (rot d 0 c) _ = xP x c j
  rw [rot_zero]
  exact congrArg (xP x c) (Shape.idx_ext₂ rfl rfl)

section Tiles

variable (X : Dev nD → XT F)

/-- The tile multiplied with the weights of a hop comes from where the weights come from. -/
theorem hd_eq (d : Bool) (h : Fin 7) (c : Dev nD) :
    shapeCast S512x512 (hdC X (xtr d h.val) c) shapeCasts_S1x512x512_S512x512 = xP (X (rot (!d) (h.val + 1) c)) c := by
  have key : ∃ (e : Dev nD) (b : Bool), hdC X (xtr d h.val) c = stk (n := 1) (X e) b c ∧ e = rot (!d) (h.val + 1) c := by
    cases d <;> fin_cases h <;> exact ⟨_, _, rfl, by revert c; decide⟩
  obtain ⟨e, b, h1, h2⟩ := key
  rw [h1, tile_eq, h2]

end Tiles

section Reals

/-! ## Over the reals -/

theorem prd_apply (x : FVec Ideal S512x512 .fp8e5m2) (w : FVec Ideal S512x2048 .fp8e5m2) (j : S512x2048.Idx) :
    prd x w j = ∑ k : Fin 512, (x (ix2 (j 0) k) * w (ix2 k (j 1)) : EReal) := by
  obtain ⟨a, b, rfl⟩ : ∃ (a : Fin 512) (b : Fin 2048), j = ix2 a b := ⟨j 0, j 1, eq_ix2 j⟩
  show FloatOps.matmul (DotDims.plain 512 512 2048) none x w (constant S512x2048 .f32 0x00000000#32) (ix2 a b) = _
  rw [Ideal.matmul_plain_apply]
  show Ideal.ofBits .f32 0x00000000#32 + _ = _
  rw [Ideal.ofBits_zero_f32, zero_add]

variable (X : Dev nD → XT Ideal) (Wt : Dev nD → WT Ideal) (Sx Sw : Dev nD → S1.Idx → Ideal .f32)

/-- The row of `x` that row `r` of device `c`'s result needs. -/
def row (c : Dev nD) (r : Fin 512) : Fin 4096 := ⟨c.val * 512 + r.val, by have h : c.val < 8 := c.isLt; have := r.isLt; omega⟩

/-- Device `e`'s share of an element of device `c`'s result. -/
def part (c : Dev nD) (i : S512x8192.Idx) (e : Dev nD) : EReal := ∑ k : Fin 512, X e (ix2 (row c (i 0)) k) * Wt e (ix2 k (i 1))

theorem xP_apply (x : XT Ideal) (c : Dev nD) (j : S512x512.Idx) : xP x c j = x (ix2 (row c (j 0)) (j 1)) :=
  congrArg x (Shape.idx_ext₂ (by show 512 * c.val + 1 * (j 0).val = c.val * 512 + (j 0).val; omega) (by show 0 + 1 * (j 1).val = (j 1).val; omega))

theorem own_part (c : Dev nD) (d : Bool) (o : Fin 2) (j : S512x2048.Idx) : acc X Wt c d o 0 j = part X Wt c ((rCol d o).emb j) c := by
  show prd (shapeCast S512x512 (xP (X c) c) shapeCasts_S512x512_S512x512)
      (shapeCast S512x2048 (fun j => Wt c ((rCol d o).emb j)) shapeCasts_S512x2048_S512x2048) j = _
  refine (congrArg₂ (fun a b => prd a b j) (shapeCast_self _ _) (shapeCast_self _ _)).trans ((prd_apply _ _ j).trans ?_)
  refine Finset.sum_congr rfl fun k _ => ?_
  rw [xP_apply]
  refine congr (congrArg HMul.hMul (congrArg (X c) (Shape.idx_ext₂ ?_ rfl))) (congrArg (Wt c) (Shape.idx_ext₂ ?_ rfl))
  · show c.val * 512 + (j 0).val = c.val * 512 + (0 + 1 * (j 0).val); omega
  · show 0 + 1 * k.val = k.val; omega

/-- A chunk of the columns of a half, at an index. -/
theorem sl_apply (o : Fin 2) (w : FVec Ideal S512x4096 .fp8e5m2) (k : Fin 512) (l : Fin 2048) :
    sl o w (ix2 k l) = w (ix2 k ⟨2048 * o.val + l.val, by omega⟩) := by
  fin_cases o
  · exact congrArg w (Shape.idx_ext₂ (Nat.zero_add _) rfl)
  · exact congrArg w (Shape.idx_ext₂ (Nat.zero_add _) rfl)

theorem hop_part (c : Dev nD) (d : Bool) (o : Fin 2) (h : Fin 7) (j : S512x2048.Idx) :
    acc X Wt c d o (h.val + 1) j = acc X Wt c d o h.val j + part X Wt c ((rCol d o).emb j) (rot (!d) (h.val + 1) c) := by
  rw [acc_succ]
  generalize acc X Wt c d o h.val = p
  unfold accS w3
  rw [hd_eq, shapeCast_self, shapeCast_shapeCast]
  show p j + prd _ _ j = _
  rw [prd_apply]
  refine congrArg (p j + ·) (Finset.sum_congr rfl fun k _ => ?_)
  rw [xP_apply]
  refine congr (congrArg HMul.hMul (congrArg (X _) (Shape.idx_ext₂ ?_ rfl))) ?_
  · show c.val * 512 + (j 0).val = c.val * 512 + (0 + 1 * (j 0).val); omega
  · refine (sl_apply o _ k (j 1)).trans (congrArg (Wt _) (Shape.idx_ext₂ ?_ ?_))
    · show 0 + 1 * k.val = k.val; omega
    · show off d + 1 * (2048 * o.val + (j 1).val) = col d o + 1 * (j 1).val
      have hd : off d = if d then 0 else 4096 := by cases d <;> rfl
      rw [col_eq, hd]; omega

/-- After `h` hops: the shares of the devices met. -/
theorem acc_sum (c : Dev nD) (d : Bool) (o : Fin 2) (j : S512x2048.Idx) : ∀ h : ℕ, h ≤ 7 →
    acc X Wt c d o h j = ∑ r ∈ Finset.range (h + 1), part X Wt c ((rCol d o).emb j) (rot (!d) r c)
  | 0, _ => by rw [own_part, Finset.sum_range_one, rot_zero]
  | h + 1, hh => by rw [hop_part X Wt c d o ⟨h, by omega⟩ j, acc_sum c d o j h (by omega), Finset.sum_range_succ _ (h + 1)]

theorem rot_bijective (d : Bool) (c : Dev nD) : Function.Bijective fun r : Fin 8 => rot d r.val c :=
  Finite.injective_iff_bijective.1 (by revert d c; decide)

/-- After all seven: every device's. -/
theorem acc_all (c : Dev nD) (d : Bool) (o : Fin 2) (j : S512x2048.Idx) :
    acc X Wt c d o 7 j = ∑ e : Dev nD, part X Wt c ((rCol d o).emb j) e := by
  rw [acc_sum X Wt c d o j 7 le_rfl, Finset.sum_range]
  exact Fintype.sum_bijective _ (rot_bijective (!d) c) _ _ fun _ => rfl

/-- The result's chunk and place in it name its element. -/
theorem emb_Of (i : S512x8192.Idx) : (rCol (dOf i) (oOf i)).emb (jOf i) = i := by
  have h1 : (i 1).val < 8192 := (i 1).isLt
  refine Shape.idx_ext₂ ?_ ?_
  · show 0 + 1 * (i 0).val = (i 0).val; omega
  · show col (dOf i) (oOf i) + 1 * ((i 1).val % 2048) = (i 1).val
    rw [col_eq]
    show (if dOf i = true then 0 else 4096) + 2048 * ((i 1).val % 4096 / 2048) + 1 * ((i 1).val % 2048) = (i 1).val
    unfold dOf
    by_cases h : (i 1).val < 4096
    · rw [if_pos (decide_eq_true h)]; omega
    · rw [if_neg (by simpa using h)]; omega

/-- The result: every device's share, scaled, through the gate. -/
theorem outY_apply (c : Dev nD) (i : S512x8192.Idx) :
    outY X Wt Sx Sw c i = gate (F := Ideal) (FloatOps.mulf (F := Ideal) (φ := .f32) (∑ e : Dev nD, part X Wt c i e) (scl Sx Sw c)) := by
  unfold outY fin
  rw [epi_apply, acc_all, emb_Of]

/-- A sum over the devices of sums over their blocks is one sum. -/
theorem sum_blocks (f : Fin 4096 → EReal) : (∑ e : Fin 8, ∑ k : Fin 512, f ⟨e.val * 512 + k.val, by omega⟩) = ∑ k : Fin 4096, f k :=
  (Fintype.sum_prod_type' (fun (e : Fin 8) (k : Fin 512) => f ⟨e.val * 512 + k.val, by omega⟩)).symm.trans
    (Fintype.sum_equiv (finProdFinEquiv (m := 8) (n := 512)) _ f fun x => congrArg f (Fin.ext (by
      show x.1.val * 512 + x.2.val = x.2.val + 512 * x.1.val; omega)))

end Reals

end Cert.RingMatmul

end
-- ==== Proof.RefValue.lean ====
/-
  What the reference's result is: the product of the two arrays, scaled, through the gate, over the arguments as launched.
-/
module

public import proofs.«01_k».proof.Proof.Gen.ReferenceIdeal.Value
public import Idealize.ShloMosaic.Lib.Pipeline.ValueKit
public import Idealize.ShloMosaic.Lib.Pipeline.Value
public import Idealize.ShloMosaic.Lib.Pipeline.ReadBack

@[expose] public section

set_option maxRecDepth 16384

noncomputable section

namespace Cert.RingMatmul.Ref

open Cert.ReferenceIdeal Cert.ReferenceIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The one element of a scale. -/
abbrev pt : S1.Idx := (Rect.unit (s := S1) ![0] S1.size inb_S1_S1_0).point numel1_S1

/-- Every block is at the start of its array. -/
theorem index_zero : ∀ (w : Fin 5) (t : Fin cfg0.N) (a : Fin (win0 w).shape.rank), (win0 w).index t a = 0 := by decide +kernel

/-- A block as large as its array, at the array's start, holds an index where the array does. -/
theorem at_start {i b y : ℕ} (h : i = 0) : i * b + 1 * y = y := by subst h; omega

theorem blk_x (c : Dev nD) (t : Fin cfg0.N) : iblk m c 0 t = m ((c : Thread nD τ).loc main_arg0) :=
  funext fun y => congrArg (m ((c : Thread nD τ).loc main_arg0)) (Shape.idx_ext₂ (at_start (index_zero 0 t 0)) (at_start (index_zero 0 t 1)))
theorem blk_w (c : Dev nD) (t : Fin cfg0.N) : iblk m c 1 t = m ((c : Thread nD τ).loc main_arg1) :=
  funext fun y => congrArg (m ((c : Thread nD τ).loc main_arg1)) (Shape.idx_ext₂ (at_start (index_zero 1 t 0)) (at_start (index_zero 1 t 1)))
theorem one_point (i j : S1.Idx) : i = j := funext fun a => Fin.ext (by
  have hi := (i a).isLt; have hj := (j a).isLt
  fin_cases a
  change (i 0).val < 1 at hi; change (j 0).val < 1 at hj
  show (i 0).val = (j 0).val; omega)
theorem blk_sx (c : Dev nD) (t : Fin cfg0.N) : iblk m c 2 t = m ((c : Thread nD τ).loc main_arg2) :=
  funext fun y => congrArg (m ((c : Thread nD τ).loc main_arg2)) (one_point _ _)
theorem blk_sw (c : Dev nD) (t : Fin cfg0.N) : iblk m c 3 t = m ((c : Thread nD τ).loc main_arg3) :=
  funext fun y => congrArg (m ((c : Thread nD τ).loc main_arg3)) (one_point _ _)

/-- The result array at the end. -/
theorem final (c : Dev nD) : (dats m 0 c).arrAt 4 cfg0.N
    = k0_pay1 (m ((c : Thread nD τ).loc main_arg0)) (m ((c : Thread nD τ).loc main_arg1))
        (m ((c : Thread nD τ).loc main_arg2) pt) (m ((c : Thread nD τ).loc main_arg3) pt) := by
  refine (dats m 0 c).arrAt_eq_of_covers 4 _ (by decide +kernel) fun t hf y => ?_
  blk_simp
  rw [after0_4]
  unfold outsAt0
  frame_out
  simp only [read_unread_whole]
  rw [blk_x, blk_w, blk_sx, blk_sw, one_point (Shape.Idx.first _) pt]
  exact congrArg _ (Shape.idx_ext₂ (at_start (index_zero 4 t 0)).symm (at_start (index_zero 4 t 1)).symm)

end Cert.RingMatmul.Ref

end
-- ==== Proof.Value.lean ====
/-
  The two results, side by side: the kernel's on device `c` is block `c` of the rows of the reference's.
-/
module

public import proofs.«01_k».proof.Proof.Sums
public import proofs.«01_k».proof.Proof.Launch
public import proofs.«01_k».proof.Proof.RefValue
public import Idealize.ShloMosaic.Lib.Layout

@[expose] public section

set_option maxRecDepth 16384

noncomputable section

namespace Cert.RingMatmul

open Cert.KernelIdeal Cert.KernelIdeal.Gen
open Idealize.ShloMosaic hiding ix2
open Idealize.ShloMosaic.ValueIdx Idealize.ShloMosaic.TcCoe
open Idealize.ShloMosaic.Pipeline (Dat)
open scoped BigOperators

/-! ## The kernel's arrays -/

section Arrays

variable {F : FTy → Type} [FloatOps F]
variable (m : (ℓ : Loc nD τ sig) → Buf (Elt F) ℓ)

theorem index_zero : ∀ (w : Fin 5) (t : Fin cfg0.N) (a : Fin (win0 w).shape.rank), (win0 w).index t a = 0 := by decide +kernel

theorem inX_eq (c : Dev nD) : inX m c = m ((c : Thread nD τ).loc main_arg0) :=
  funext fun y => congrArg (m ((c : Thread nD τ).loc main_arg0)) (Shape.idx_ext₂ (Ref.at_start (index_zero 0 t0_0 0)) (Ref.at_start (index_zero 0 t0_0 1)))
theorem inW_eq (c : Dev nD) : inW m c = m ((c : Thread nD τ).loc main_arg1) :=
  funext fun y => congrArg (m ((c : Thread nD τ).loc main_arg1)) (Shape.idx_ext₂ (Ref.at_start (index_zero 1 t0_0 0)) (Ref.at_start (index_zero 1 t0_0 1)))
theorem inSx_eq (c : Dev nD) : inSx m c = m ((c : Thread nD τ).loc main_arg2) :=
  funext fun y => congrArg (m ((c : Thread nD τ).loc main_arg2)) (Ref.one_point _ _)
theorem inSw_eq (c : Dev nD) : inSw m c = m ((c : Thread nD τ).loc main_arg3) :=
  funext fun y => congrArg (m ((c : Thread nD τ).loc main_arg3)) (Ref.one_point _ _)

/-- The result array at the end is the result block. -/
theorem final_out (c : Dev nD) : finalA m c 4 = result m c := by
  unfold finalA
  refine (dats m 0 c).arrAt_eq_of_covers 4 _ (by decide +kernel) fun t hf y => ?_
  show result m c _ = result m c _
  exact congrArg (result m c) (Shape.idx_ext₂ (Ref.at_start (index_zero 4 t 0)).symm (Ref.at_start (index_zero 4 t 1)).symm)

end Arrays

/-! ## The reference, at an index -/

abbrev PX := (⟨2, ![4096, 4096]⟩ : Shape).Idx → Ideal .fp8e5m2
abbrev PW := (⟨2, ![4096, 8192]⟩ : Shape).Idx → Ideal .fp8e5m2

theorem ref_apply (x : PX) (w : PW) (sx sw : Ideal .f32) (r : Fin 4096) (l : Fin 8192) :
    Cert.ReferenceIdeal.Gen.k0_pay1 (F := Ideal) x w sx sw (ix2 r l)
      = gate (F := Ideal) (FloatOps.mulf (F := Ideal) (φ := .f32) (∑ k : Fin 4096, (x (ix2 r k) * w (ix2 k l) : EReal)) (FloatOps.mulf sx sw)) := by
  show gate (F := Ideal) (FloatOps.mulf (F := Ideal) (φ := .f32)
    (FloatOps.matmul (DotDims.plain 4096 4096 8192) none x w (constant ⟨2, ![4096, 8192]⟩ .f32 0x00000000#32) (ix2 r l)) (FloatOps.mulf sx sw)) = _
  rw [Ideal.matmul_plain_apply]
  show gate (F := Ideal) (FloatOps.mulf (F := Ideal) (φ := .f32) (Ideal.ofBits .f32 0x00000000#32 + _) _) = _
  rw [Ideal.ofBits_zero_f32, zero_add]

/-! ## Together -/

/-- With device `e` holding column block `e` of `x` and row block `e` of the weights, the devices' shares add up to the
    whole product's element. -/
theorem parts_sum (X : Dev nD → XT Ideal) (Wt : Dev nD → WT Ideal) (x : PX) (w : PW)
    (hX : ∀ e, X e = Layout.block ⟨2, ![4096, 512]⟩ ⟨2, ![4096, 4096]⟩ 1 8 e x) (hW : ∀ e, Wt e = Layout.block ⟨2, ![512, 8192]⟩ ⟨2, ![4096, 8192]⟩ 0 8 e w)
    (c : Dev nD) (i : S512x8192.Idx) :
    (∑ e : Dev nD, part X Wt c i e) = ∑ k : Fin 4096, (x (ix2 (row c (i 0)) k) * w (ix2 k (i 1)) : EReal) := by
  refine (Finset.sum_congr rfl fun e _ => ?_).trans (sum_blocks fun k => (x (ix2 (row c (i 0)) k) * w (ix2 k (i 1)) : EReal))
  refine Finset.sum_congr rfl fun k _ => ?_
  rw [hX, hW]
  exact congr (congrArg HMul.hMul (congrArg x (Shape.idx_ext₂ rfl rfl))) (congrArg w (Shape.idx_ext₂ rfl rfl))

/-- The kernel's result on device `c` is block `c` of the reference's. -/
theorem result_block (m : (ℓ : Loc nD τ sig) → Buf (Elt Ideal) ℓ) (x : PX) (w : PW) (sx sw : S1.Idx → Ideal .f32)
    (h : ∀ c : Dev nD, m ((c : Thread nD τ).loc main_arg0) = Layout.block ⟨2, ![4096, 512]⟩ ⟨2, ![4096, 4096]⟩ 1 8 c x
      ∧ m ((c : Thread nD τ).loc main_arg1) = Layout.block ⟨2, ![512, 8192]⟩ ⟨2, ![4096, 8192]⟩ 0 8 c w
      ∧ m ((c : Thread nD τ).loc main_arg2) = sx ∧ m ((c : Thread nD τ).loc main_arg3) = sw) (c : Dev nD) :
    result m c = Layout.block ⟨2, ![512, 8192]⟩ ⟨2, ![4096, 8192]⟩ 0 8 c (Cert.ReferenceIdeal.Gen.k0_pay1 (F := Ideal) x w (sx Ref.pt) (sw Ref.pt)) := by
  funext i
  show outY (inX m) (inW m) (inSx m) (inSw m) c i = Cert.ReferenceIdeal.Gen.k0_pay1 (F := Ideal) x w (sx Ref.pt) (sw Ref.pt) _
  rw [outY_apply, parts_sum (inX m) (inW m) x w (fun e => (inX_eq m e).trans (h e).1) (fun e => (inW_eq m e).trans (h e).2.1)]
  refine Eq.trans ?_ ((ref_apply x w (sx Ref.pt) (sw Ref.pt) (row c (i 0)) (i 1)).symm.trans
    (congrArg (Cert.ReferenceIdeal.Gen.k0_pay1 (F := Ideal) x w (sx Ref.pt) (sw Ref.pt)) (Shape.idx_ext₂ ?_ ?_)))
  rotate_left
  · show c.val * 512 + (i 0).val = c.val * 512 + (i 0).val; rfl
  · show (i 1).val = (i 1).val; rfl
  unfold scl
  rw [inSx_eq, inSw_eq, (h c).2.2.1, (h c).2.2.2]
  rfl

end Cert.RingMatmul

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Same
public import proofs.«01_k».proof.Proof.Value
public import Idealize.ShloMosaic.Adequacy
public import Idealize.ShloMosaic.Init

@[expose] public section

noncomputable section

namespace Cert.Proof

open Idealize.ShloMosaic Idealize.SL.Sem Cert.Kernel

/-- From any memory, at any float values: the idealization's arguments end unchanged, every counter at zero. -/
theorem unchanged {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono
    (fun _ h => ⟨fun c => ⟨(h.1 c 0).trans (Cert.RingMatmul.final_in m c 0 rfl), (h.1 c 1).trans (Cert.RingMatmul.final_in m c 1 rfl),
      (h.1 c 2).trans (Cert.RingMatmul.final_in m c 2 rfl), (h.1 c 3).trans (Cert.RingMatmul.final_in m c 3 rfl)⟩, h.2⟩)
    (Cert.RingMatmul.run_main m ρ)

/-- Over the reals the kernel's results are the row blocks of the reference's. -/
theorem value : Cert.algebraic_KernelIdeal_ReferenceIdeal := fun m g m' g' _ h =>
  ⟨_, (θ_run Cert.KernelIdeal.defs _ _).mono
      (fun _ hr c => ⟨(hr.1 c 4).trans ((Cert.RingMatmul.final_out m c).trans (Cert.RingMatmul.result_block m _ _ _ _ h c)),
        (hr.1 c 0).trans (Cert.RingMatmul.final_in m c 0 rfl), (hr.1 c 1).trans (Cert.RingMatmul.final_in m c 1 rfl),
        (hr.1 c 2).trans (Cert.RingMatmul.final_in m c 2 rfl), (hr.1 c 3).trans (Cert.RingMatmul.final_in m c 3 rfl)⟩)
      (Cert.RingMatmul.run_main m g),
    (θ_run Cert.ReferenceIdeal.defs _ _).mono
      (fun _ hr => ⟨(hr 0).1.trans (Cert.RingMatmul.Ref.final m' 0), (hr 0).2⟩)
      (Cert.ReferenceIdeal.Value.run_blocks m' g')⟩

theorem claim : Cert.Claim := ⟨Cert.Kernel.Gen.facts, Cert.KernelIdeal.Gen.facts, Cert.ReferenceIdeal.Gen.facts,
  fun m ρ _ => Cert.RingMatmul.run_same (unchanged (F := Bits) m ρ), fun m ρ _ => unchanged (F := Ideal) m ρ, fun m ρ _ => Cert.ReferenceIdeal.Gen.frame m ρ, trivial, value⟩

end Cert.Proof

end
